-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 256, 512]⟩ ⟨3, ![8, 256, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S8x256x16x64 : S_.BroadcastsInDim S8x256x16x64 (![] : Fin 0 → Fin S8x256x16x64.rank)

variable [Facts]

def fn {F : FTy → Type} [FloatOps F] (main_arg0 : FVec F S2x256x512 .bf16) (main_arg1 : FVec F S512x256 .bf16) (main_arg2 : FVec F S8x256x16x64 .bf16) (main_arg3 : FVec F S8x256x16x64 .bf16) (main_arg4 : FVec F S256x512 .bf16) : IVec S2x256x512 1 × IVec S512x256 1 × IVec S8x256x16x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S8x256x16x64 .bf16 := Host.absf main_arg2
  let main_cst_1 : FVec F S_ .bf16 := constant S_ .bf16 0x7F80#16
  let main_v7 : FVec F S8x256x16x64 .bf16 := broadcastInDim S8x256x16x64 ![] bcast_S_S8x256x16x64 main_cst_1
  let main_v8 : IVec S8x256x16x64 1 := cmpf .olt main_v6 main_v7
  (main_v2, main_v5, main_v8)
-- ==== Pre_finite_scores_ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S_ : Shape := ⟨0, ![]⟩

class Facts : Prop where
  bcast_S_S8x256x512 : S_.BroadcastsInDim S8x256x512 (![] : Fin 0 → Fin S8x256x512.rank)
  bcast_S_S512x1024 : S_.BroadcastsInDim S512x1024 (![] : Fin 0 → Fin S512x1024.rank)
  bcast_S_S8x256x16x64 : S_.BroadcastsInDim S8x256x16x64 (![] : Fin 0 → Fin S8x256x16x64.rank)

variable [Facts]

def fn {F : FTy → Type} [FloatOps F] (main_arg0 : FVec F S8x256x512 .bf16) (main_arg1 : FVec F S512x1024 .bf16) (main_arg2 : FVec F S8x256x16x64 .bf16) (main_arg3 : FVec F S8x256x16x64 .bf16) (main_arg4 : FVec F S1024x512 .bf16) : IVec S8x256x512 1 × IVec S512x1024 1 × IVec S8x256x16x64 1 :=
  let main_v0 : FVec F S8x256x512 .bf16 := Host.absf main_arg0
  let main_cst : FVec F S_ .bf16 := constant S_ .bf16 0x7F80#16
  let main_v1 : FVec F S8x256x512 .bf16 := broadcastInDim S8x256x512 ![] bcast_S_S8x256x512 main_cst
  let main_v2 : IVec S8x256x512 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S8x256x16x64 .bf16 := Host.absf main_arg2
  let main_cst_1 : FVec F S_ .bf16 := constant S_ .bf16 0x7F80#16
  let main_v7 : FVec F S8x256x16x64 .bf16 := broadcastInDim S8x256x16x64 ![] bcast_S_S8x256x16x64 main_cst_1
  let main_v8 : IVec S8x256x16x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩
abbrev S2x256x16x64 : Shape := ⟨4, ![2, 256, 16, 64]⟩
abbrev S16x2x256x64 : Shape := ⟨4, ![16, 2, 256, 64]⟩
abbrev S4x512x256 : Shape := ⟨3, ![4, 512, 256]⟩
abbrev S4x256x512 : Shape := ⟨3, ![4, 256, 512]⟩
abbrev S2x4 : Shape := ⟨2, ![2, 4]⟩
abbrev S1x1 : Shape := ⟨2, ![1, 1]⟩
abbrev S1x512x256 : Shape := ⟨3, ![1, 512, 256]⟩
abbrev S1x256x512 : Shape := ⟨3, ![1, 256, 512]⟩
abbrev S256x256 : Shape := ⟨2, ![256, 256]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S64x512 : Shape := ⟨2, ![64, 512]⟩

abbrev nBuf : Space → Nat
  | .hbm => 36
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S8x256x16x64, .bf16⟩
  | .hbm, ⟨3, _⟩ => ⟨S8x256x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x16x64, .bf16⟩
  | .hbm, ⟨22, _⟩ => ⟨S16x2x256x64, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x256x16x64, .bf16⟩
  | .hbm, ⟨34, _⟩ => ⟨S16x2x256x64, .bf16⟩
  | .hbm, ⟨35, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S16x2x256x64, .bf16⟩
  | .local _ .vmem, ⟨3, _⟩ => ⟨S16x2x256x64, .bf16⟩
  | .local _ .vmem, ⟨4, _⟩ => ⟨S256x512, .bf16⟩
  | .local _ .vmem, ⟨5, _⟩ => ⟨S2x256x512, .f32⟩
  | .local _ .vmem, ⟨6, _⟩ => ⟨S4x512x256, .bf16⟩
  | .local _ .vmem, ⟨7, _⟩ => ⟨S4x256x512, .bf16⟩
  | .local _ .vmem, ⟨8, _⟩ => ⟨S2x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let c0_i32_42 : BitVec 32 := 0#32
  ![v2.toNat, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_28 : BitVec 32 := 3#32
  let v43 : BitVec 32 := Scalar.addi v2 c3_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_39 : BitVec 32 := 1#32
  let v54 : BitVec 32 := Scalar.muli v53 c1_i32_39
  let v55 : BitVec 32 := Scalar.addi c0_i32_40 v54
  v55.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_49 : BitVec 32 := 0#32
  let c0_i32_50 : BitVec 32 := 0#32
  ![v2.toNat, 0, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_28 : BitVec 32 := 3#32
  let v43 : BitVec 32 := Scalar.addi v2 c3_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_47 : BitVec 32 := 1#32
  let v62 : BitVec 32 := Scalar.muli v53 c1_i32_47
  let v63 : BitVec 32 := Scalar.addi c0_i32_48 v62
  v63.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v70 : BitVec 32 := Scalar.addi v2 c2_i32_51
  let c4_i32_52 : BitVec 32 := 4#32
  let c0_i32_53 : BitVec 32 := 0#32
  let v71 : BitVec 1 := Scalar.cmpi .eq c4_i32_52 c0_i32_53
  let c1_i32_54 : BitVec 32 := 1#32
  let v72 : BitVec 32 := Scalar.select v71 c1_i32_54 c4_i32_52
  let v73 : BitVec 32 := Scalar.remsi v70 v72
  let c0_i32_56 : BitVec 32 := 0#32
  let v75 : BitVec 1 := Scalar.cmpi .slt v73 c0_i32_56
  let c0_i32_57 : BitVec 32 := 0#32
  let v76 : BitVec 1 := Scalar.cmpi .slt v72 c0_i32_57
  let v77 : BitVec 1 := Scalar.xori v75 v76
  let c0_i32_55 : BitVec 32 := 0#32
  let v74 : BitVec 1 := Scalar.cmpi .ne v73 c0_i32_55
  let v78 : BitVec 1 := Scalar.andi v77 v74
  let v79 : BitVec 32 := Scalar.addi v73 v72
  let v80 : BitVec 32 := Scalar.select v78 v79 v73
  let c1_i32_62 : BitVec 32 := 1#32
  let v81 : BitVec 32 := Scalar.muli v80 c1_i32_62
  let v82 : BitVec 32 := Scalar.addi c0_i32_63 v81
  v82.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v70 : BitVec 32 := Scalar.addi v2 c2_i32_51
  let c4_i32_52 : BitVec 32 := 4#32
  let c0_i32_53 : BitVec 32 := 0#32
  let v71 : BitVec 1 := Scalar.cmpi .eq c4_i32_52 c0_i32_53
  let c1_i32_54 : BitVec 32 := 1#32
  let v72 : BitVec 32 := Scalar.select v71 c1_i32_54 c4_i32_52
  let v73 : BitVec 32 := Scalar.remsi v70 v72
  let c0_i32_56 : BitVec 32 := 0#32
  let v75 : BitVec 1 := Scalar.cmpi .slt v73 c0_i32_56
  let c0_i32_57 : BitVec 32 := 0#32
  let v76 : BitVec 1 := Scalar.cmpi .slt v72 c0_i32_57
  let v77 : BitVec 1 := Scalar.xori v75 v76
  let c0_i32_55 : BitVec 32 := 0#32
  let v74 : BitVec 1 := Scalar.cmpi .ne v73 c0_i32_55
  let v78 : BitVec 1 := Scalar.andi v77 v74
  let v79 : BitVec 32 := Scalar.addi v73 v72
  let v80 : BitVec 32 := Scalar.select v78 v79 v73
  let c1_i32_70 : BitVec 32 := 1#32
  let v89 : BitVec 32 := Scalar.muli v80 c1_i32_70
  let v90 : BitVec 32 := Scalar.addi c0_i32_71 v89
  v90.toNat
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_74 : BitVec 32 := 1#32
  let v97 : BitVec 32 := Scalar.addi v2 c1_i32_74
  let c4_i32_75 : BitVec 32 := 4#32
  let c0_i32_76 : BitVec 32 := 0#32
  let v98 : BitVec 1 := Scalar.cmpi .eq c4_i32_75 c0_i32_76
  let c1_i32_77 : BitVec 32 := 1#32
  let v99 : BitVec 32 := Scalar.select v98 c1_i32_77 c4_i32_75
  let v100 : BitVec 32 := Scalar.remsi v97 v99
  let c0_i32_79 : BitVec 32 := 0#32
  let v102 : BitVec 1 := Scalar.cmpi .slt v100 c0_i32_79
  let c0_i32_80 : BitVec 32 := 0#32
  let v103 : BitVec 1 := Scalar.cmpi .slt v99 c0_i32_80
  let v104 : BitVec 1 := Scalar.xori v102 v103
  let c0_i32_78 : BitVec 32 := 0#32
  let v101 : BitVec 1 := Scalar.cmpi .ne v100 c0_i32_78
  let v105 : BitVec 1 := Scalar.andi v104 v101
  let v106 : BitVec 32 := Scalar.addi v100 v99
  let v107 : BitVec 32 := Scalar.select v105 v106 v100
  let c1_i32_85 : BitVec 32 := 1#32
  let v108 : BitVec 32 := Scalar.muli v107 c1_i32_85
  let v109 : BitVec 32 := Scalar.addi c0_i32_86 v108
  v109.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_74 : BitVec 32 := 1#32
  let v97 : BitVec 32 := Scalar.addi v2 c1_i32_74
  let c4_i32_75 : BitVec 32 := 4#32
  let c0_i32_76 : BitVec 32 := 0#32
  let v98 : BitVec 1 := Scalar.cmpi .eq c4_i32_75 c0_i32_76
  let c1_i32_77 : BitVec 32 := 1#32
  let v99 : BitVec 32 := Scalar.select v98 c1_i32_77 c4_i32_75
  let v100 : BitVec 32 := Scalar.remsi v97 v99
  let c0_i32_79 : BitVec 32 := 0#32
  let v102 : BitVec 1 := Scalar.cmpi .slt v100 c0_i32_79
  let c0_i32_80 : BitVec 32 := 0#32
  let v103 : BitVec 1 := Scalar.cmpi .slt v99 c0_i32_80
  let v104 : BitVec 1 := Scalar.xori v102 v103
  let c0_i32_78 : BitVec 32 := 0#32
  let v101 : BitVec 1 := Scalar.cmpi .ne v100 c0_i32_78
  let v105 : BitVec 1 := Scalar.andi v104 v101
  let v106 : BitVec 32 := Scalar.addi v100 v99
  let v107 : BitVec 32 := Scalar.select v105 v106 v100
  let c1_i32_93 : BitVec 32 := 1#32
  let v116 : BitVec 32 := Scalar.muli v107 c1_i32_93
  let v117 : BitVec 32 := Scalar.addi c0_i32_94 v116
  v117.toNat
def k0_off3 (d0 : Dev nD) (c0_i32_120 : BitVec 32) (c0_i32_134 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_120
  let c4_i32_121 : BitVec 32 := 4#32
  let c0_i32_122 : BitVec 32 := 0#32
  let v186 : BitVec 1 := Scalar.cmpi .eq c4_i32_121 c0_i32_122
  let c1_i32_123 : BitVec 32 := 1#32
  let v187 : BitVec 32 := Scalar.select v186 c1_i32_123 c4_i32_121
  let v188 : BitVec 32 := Scalar.remsi v185 v187
  let c0_i32_125 : BitVec 32 := 0#32
  let v190 : BitVec 1 := Scalar.cmpi .slt v188 c0_i32_125
  let c0_i32_126 : BitVec 32 := 0#32
  let v191 : BitVec 1 := Scalar.cmpi .slt v187 c0_i32_126
  let v192 : BitVec 1 := Scalar.xori v190 v191
  let c0_i32_124 : BitVec 32 := 0#32
  let v189 : BitVec 1 := Scalar.cmpi .ne v188 c0_i32_124
  let v193 : BitVec 1 := Scalar.andi v192 v189
  let v194 : BitVec 32 := Scalar.addi v188 v187
  let v195 : BitVec 32 := Scalar.select v193 v194 v188
  let c4_i32_133 : BitVec 32 := 4#32
  let v204 : BitVec 32 := Scalar.muli v195 c4_i32_133
  let v205 : BitVec 32 := Scalar.addi v204 c0_i32_134
  let v207 : Index := Scalar.indexCast v205
  let c0_135 : Index := 0#32
  let c0_136 : Index := 0#32
  let c0_137 : Index := 0#32
  ![v207.toNat, 0, 0, 0]
def k0_off4 (d0 : Dev nD) (c0_i32_120 : BitVec 32) (c0_i32_187 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v185 : BitVec 32 := Scalar.addi v2 c0_i32_120
  let c4_i32_121 : BitVec 32 := 4#32
  let c0_i32_122 : BitVec 32 := 0#32
  let v186 : BitVec 1 := Scalar.cmpi .eq c4_i32_121 c0_i32_122
  let c1_i32_123 : BitVec 32 := 1#32
  let v187 : BitVec 32 := Scalar.select v186 c1_i32_123 c4_i32_121
  let v188 : BitVec 32 := Scalar.remsi v185 v187
  let c0_i32_125 : BitVec 32 := 0#32
  let v190 : BitVec 1 := Scalar.cmpi .slt v188 c0_i32_125
  let c0_i32_126 : BitVec 32 := 0#32
  let v191 : BitVec 1 := Scalar.cmpi .slt v187 c0_i32_126
  let v192 : BitVec 1 := Scalar.xori v190 v191
  let c0_i32_124 : BitVec 32 := 0#32
  let v189 : BitVec 1 := Scalar.cmpi .ne v188 c0_i32_124
  let v193 : BitVec 1 := Scalar.andi v192 v189
  let v194 : BitVec 32 := Scalar.addi v188 v187
  let v195 : BitVec 32 := Scalar.select v193 v194 v188
  let c4_i32_186 : BitVec 32 := 4#32
  let v294 : BitVec 32 := Scalar.muli v195 c4_i32_186
  let v295 : BitVec 32 := Scalar.addi v294 c0_i32_187
  let v297 : Index := Scalar.indexCast v295
  let c1_188 : Index := 1#32
  let c0_189 : Index := 0#32
  let c0_190 : Index := 0#32
  ![v297.toNat, 1, 0, 0]
def k0_off5 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c1_i32_250
  let c4_i32_251 : BitVec 32 := 4#32
  let c0_i32_252 : BitVec 32 := 0#32
  let v409 : BitVec 1 := Scalar.cmpi .eq c4_i32_251 c0_i32_252
  let c1_i32_253 : BitVec 32 := 1#32
  let v410 : BitVec 32 := Scalar.select v409 c1_i32_253 c4_i32_251
  let v411 : BitVec 32 := Scalar.remsi v408 v410
  let c0_i32_255 : BitVec 32 := 0#32
  let v413 : BitVec 1 := Scalar.cmpi .slt v411 c0_i32_255
  let c0_i32_256 : BitVec 32 := 0#32
  let v414 : BitVec 1 := Scalar.cmpi .slt v410 c0_i32_256
  let v415 : BitVec 1 := Scalar.xori v413 v414
  let c0_i32_254 : BitVec 32 := 0#32
  let v412 : BitVec 1 := Scalar.cmpi .ne v411 c0_i32_254
  let v416 : BitVec 1 := Scalar.andi v415 v412
  let v417 : BitVec 32 := Scalar.addi v411 v410
  let v418 : BitVec 32 := Scalar.select v416 v417 v411
  let c0_i32_263 : BitVec 32 := 0#32
  let c0_i32_264 : BitVec 32 := 0#32
  ![v418.toNat, 0, 0]
def k0_off6 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c1_i32_250
  let c4_i32_251 : BitVec 32 := 4#32
  let c0_i32_252 : BitVec 32 := 0#32
  let v409 : BitVec 1 := Scalar.cmpi .eq c4_i32_251 c0_i32_252
  let c1_i32_253 : BitVec 32 := 1#32
  let v410 : BitVec 32 := Scalar.select v409 c1_i32_253 c4_i32_251
  let v411 : BitVec 32 := Scalar.remsi v408 v410
  let c0_i32_255 : BitVec 32 := 0#32
  let v413 : BitVec 1 := Scalar.cmpi .slt v411 c0_i32_255
  let c0_i32_256 : BitVec 32 := 0#32
  let v414 : BitVec 1 := Scalar.cmpi .slt v410 c0_i32_256
  let v415 : BitVec 1 := Scalar.xori v413 v414
  let c0_i32_254 : BitVec 32 := 0#32
  let v412 : BitVec 1 := Scalar.cmpi .ne v411 c0_i32_254
  let v416 : BitVec 1 := Scalar.andi v415 v412
  let v417 : BitVec 32 := Scalar.addi v411 v410
  let v418 : BitVec 32 := Scalar.select v416 v417 v411
  let v427 : Index := Scalar.indexCast v418
  let c0_267 : Index := 0#32
  let c0_268 : Index := 0#32
  ![v427.toNat, 0, 0]
def k0_off7 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c1_i32_250
  let c4_i32_251 : BitVec 32 := 4#32
  let c0_i32_252 : BitVec 32 := 0#32
  let v409 : BitVec 1 := Scalar.cmpi .eq c4_i32_251 c0_i32_252
  let c1_i32_253 : BitVec 32 := 1#32
  let v410 : BitVec 32 := Scalar.select v409 c1_i32_253 c4_i32_251
  let v411 : BitVec 32 := Scalar.remsi v408 v410
  let c0_i32_255 : BitVec 32 := 0#32
  let v413 : BitVec 1 := Scalar.cmpi .slt v411 c0_i32_255
  let c0_i32_256 : BitVec 32 := 0#32
  let v414 : BitVec 1 := Scalar.cmpi .slt v410 c0_i32_256
  let v415 : BitVec 1 := Scalar.xori v413 v414
  let c0_i32_254 : BitVec 32 := 0#32
  let v412 : BitVec 1 := Scalar.cmpi .ne v411 c0_i32_254
  let v416 : BitVec 1 := Scalar.andi v415 v412
  let v417 : BitVec 32 := Scalar.addi v411 v410
  let v418 : BitVec 32 := Scalar.select v416 v417 v411
  let c0_i32_381 : BitVec 32 := 0#32
  let c0_i32_382 : BitVec 32 := 0#32
  ![v418.toNat, 0, 0]
def k0_off8 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v408 : BitVec 32 := Scalar.addi v2 c1_i32_250
  let c4_i32_251 : BitVec 32 := 4#32
  let c0_i32_252 : BitVec 32 := 0#32
  let v409 : BitVec 1 := Scalar.cmpi .eq c4_i32_251 c0_i32_252
  let c1_i32_253 : BitVec 32 := 1#32
  let v410 : BitVec 32 := Scalar.select v409 c1_i32_253 c4_i32_251
  let v411 : BitVec 32 := Scalar.remsi v408 v410
  let c0_i32_255 : BitVec 32 := 0#32
  let v413 : BitVec 1 := Scalar.cmpi .slt v411 c0_i32_255
  let c0_i32_256 : BitVec 32 := 0#32
  let v414 : BitVec 1 := Scalar.cmpi .slt v410 c0_i32_256
  let v415 : BitVec 1 := Scalar.xori v413 v414
  let c0_i32_254 : BitVec 32 := 0#32
  let v412 : BitVec 1 := Scalar.cmpi .ne v411 c0_i32_254
  let v416 : BitVec 1 := Scalar.andi v415 v412
  let v417 : BitVec 32 := Scalar.addi v411 v410
  let v418 : BitVec 32 := Scalar.select v416 v417 v411
  let v618 : Index := Scalar.indexCast v418
  let c0_385 : Index := 0#32
  let c0_386 : Index := 0#32
  ![v618.toNat, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S8x256x1024 : Shape := ⟨3, ![8, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8x16x256x256 : Shape := ⟨4, ![8, 16, 256, 256]⟩
abbrev S1x1x256x256 : Shape := ⟨4, ![1, 1, 256, 256]⟩
abbrev S8x16x256 : Shape := ⟨3, ![8, 16, 256]⟩
abbrev S8x16x256x1 : Shape := ⟨4, ![8, 16, 256, 1]⟩
abbrev S1x1x256x1 : Shape := ⟨4, ![1, 1, 256, 1]⟩
abbrev S8x16x64x256 : Shape := ⟨4, ![8, 16, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S512x1024, .bf16⟩
  | .hbm, ⟨2, _⟩ => ⟨S8x256x16x64, .bf16⟩
  | .hbm, ⟨3, _⟩ => ⟨S8x256x16x64, .bf16⟩
  | .hbm, ⟨4, _⟩ => ⟨S1024x512, .bf16⟩
  | .hbm, ⟨5, _⟩ => ⟨S8x256x512, .f32⟩
  | .hbm, ⟨6, _⟩ => ⟨S512x1024, .f32⟩
  | .hbm, ⟨7, _⟩ => ⟨S8x256x16x64, .f32⟩
  | .hbm, ⟨8, _⟩ => ⟨S8x256x16x64, .f32⟩
  | .hbm, ⟨9, _⟩ => ⟨S1024x512, .f32⟩
  | .hbm, ⟨10, _⟩ => ⟨S8x256x1024, .f32⟩
  | .hbm, ⟨11, _⟩ => ⟨S8x256x16x64, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S8x16x256x256, .f32⟩
  | .hbm, ⟨56, _⟩ => ⟨S_, .f32⟩
  | .hbm, ⟨57, _⟩ => ⟨S8x16x256x256, .f32⟩
  | .hbm, ⟨58, _⟩ => ⟨S8x16x256x256, .f32⟩
  | .hbm, ⟨59, _⟩ => ⟨S1x1x256x256, .i1⟩
  | .hbm, ⟨60, _⟩ => ⟨S_, .f32⟩
  | .hbm, ⟨61, _⟩ => ⟨S_, .f32⟩
  | .hbm, ⟨62, _⟩ => ⟨S8x16x256x256, .i1⟩
  | .hbm, ⟨63, _⟩ => ⟨S8x16x256x256, .f32⟩
  | .hbm, ⟨64, _⟩ => ⟨S8x16x256x256, .f32⟩
  | .hbm, ⟨65, _⟩ => ⟨S_, .f32⟩
  | .hbm, ⟨66, _⟩ => ⟨S8x16x256, .f32⟩
  | .hbm, ⟨67, _⟩ => ⟨S8x16x256x1, .f32⟩
  | .hbm, ⟨68, _⟩ => ⟨S8x16x256x256, .f32⟩
  | .hbm, ⟨69, _⟩ => ⟨S8x16x256x256, .f32⟩
  | .hbm, ⟨70, _⟩ => ⟨S8x16x256x256, .f32⟩
  | .hbm, ⟨71, _⟩ => ⟨S_, .i1⟩
  | .hbm, ⟨72, _⟩ => ⟨S256, .i1⟩
  | .hbm, ⟨73, _⟩ => ⟨S1x1x256x1, .i1⟩
  | .hbm, ⟨74, _⟩ => ⟨S_, .f32⟩
  | .hbm, ⟨75, _⟩ => ⟨S8x16x256, .f32⟩
  | .hbm, ⟨76, _⟩ => ⟨S8x16x256x1, .f32⟩
  | .hbm, ⟨77, _⟩ => ⟨S_, .f32⟩
  | .hbm, ⟨78, _⟩ => ⟨S_, .f32⟩
  | .hbm, ⟨79, _⟩ => ⟨S8x16x256x1, .i1⟩
  | .hbm, ⟨80, _⟩ => ⟨S8x16x256x1, .f32⟩
  | .hbm, ⟨81, _⟩ => ⟨S8x16x256x1, .f32⟩
  | .hbm, ⟨82, _⟩ => ⟨S8x16x256x256, .f32⟩
  | .hbm, ⟨83, _⟩ => ⟨S8x16x256x256, .f32⟩
  | .hbm, ⟨84, _⟩ => ⟨S1x1x256x1, .i1⟩
  | .hbm, ⟨85, _⟩ => ⟨S_, .f32⟩
  | .hbm, ⟨86, _⟩ => ⟨S_, .f32⟩
  | .hbm, ⟨87, _⟩ => ⟨S8x16x256x256, .i1⟩
  | .hbm, ⟨88, _⟩ => ⟨S8x16x256x256, .f32⟩
  | .hbm, ⟨89, _⟩ => ⟨S8x16x256x256, .f32⟩
  | .hbm, ⟨90, _⟩ => ⟨S8x16x64x256, .f32⟩
  | .hbm, ⟨91, _⟩ => ⟨S8x256x16x64, .f32⟩
  | .hbm, ⟨92, _⟩ => ⟨S8x256x1024, .f32⟩
  | .hbm, ⟨93, _⟩ => ⟨S8x256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Protocol.lean ====
/-
The protocol the four devices speak in the kernel, written down as a schedule.

Every device `c` has one barrier cell, eight send cells and eight receive cells (of each eight, six are used: one for each of
the two weight blocks and each distance `o = 1, 2, 3` to another device).

* Barrier. Device `c` signals the barrier of `c + 1`, `c + 2`, `c + 3`, one unit each, and then waits for three units on its
  own. A signal hands over the two slots of the signaller's gather buffers that the receiver of the signal is going to fill.
* Transfers. Device `c` copies its `Wq` block into slot `c` of the first gather buffer of `c + o` and its `Wo` block into slot
  `c` of the second, `o = 3, 2, 1`. The receive cell credited on `c + o` carries the filled slot with its contents; the send
  cell credited on `c` carries the lent share of the source block back.
* Order. Barrier, then all six transfers, then the receive waits as the blocks are needed, then the six send waits.
-/
module

public import proofs.«01_k».proof.Proof.Gen.KernelIdeal.Regions
public import proofs.«01_k».proof.Proof.Gen.KernelIdeal.Points
public import proofs.«01_k».proof.Proof.Gen.KernelIdeal.Launch
public import Idealize.ShloMosaic.Lib.StableHlo
public import Idealize.ShloMosaic.Lib.Tactic
public import Idealize.ShloMosaic.PureOps
public import Idealize.ShloMosaic.Lib.Pipeline.RegionTalk
public import Idealize.ShloMosaic.Lib.Ring
public import Idealize.ShloMosaic.Lib.Transfers

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The names of the duties of a cell: the distance of the payer at a barrier cell, `0` elsewhere. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices at a distance -/

/-- The device at distance `o` after `c`. -/
def fwd (c : Dev nD) (o : Fin 4) : Dev nD := ⟨(c.val + o.val) % 4, Nat.mod_lt _ (by decide)⟩
/-- The device at distance `o` before `c`. -/
def bwd (c : Dev nD) (o : Fin 4) : Dev nD := ⟨(c.val + (4 - o.val)) % 4, Nat.mod_lt _ (by decide)⟩
/-- The distance back. -/
def inv (o : Fin 4) : Fin 4 := ⟨(4 - o.val) % 4, Nat.mod_lt _ (by decide)⟩

theorem bwd_fwd (c : Dev nD) (o : Fin 4) : bwd (fwd c o) o = c := by revert c o; decide
theorem fwd_bwd (c : Dev nD) (o : Fin 4) : fwd (bwd c o) o = c := by revert c o; decide
theorem bwd_inv (c : Dev nD) (o : Fin 4) : bwd c (inv o) = fwd c o := by revert c o; decide

theorem dev1_eq (c : Dev nD) : (⟨k0_dev1 c, k0_dev1_lt c⟩ : Dev nD) = fwd c 1 := by revert c; decide +kernel
theorem dev2_eq (c : Dev nD) : (⟨k0_dev2 c, k0_dev2_lt c⟩ : Dev nD) = fwd c 2 := by revert c; decide +kernel
theorem dev3_eq (c : Dev nD) : (⟨k0_dev3 c, k0_dev3_lt c⟩ : Dev nD) = fwd c 3 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 3 := by revert c; decide +kernel
theorem dev6_eq (c : Dev nD) : (⟨k0_dev6 c, k0_dev6_lt c⟩ : Dev nD) = fwd c 2 := by revert c; decide +kernel
theorem dev7_eq (c : Dev nD) : (⟨k0_dev7 c, k0_dev7_lt c⟩ : Dev nD) = fwd c 2 := by revert c; decide +kernel
theorem dev8_eq (c : Dev nD) : (⟨k0_dev8 c, k0_dev8_lt c⟩ : Dev nD) = fwd c 1 := by revert c; decide +kernel
theorem dev9_eq (c : Dev nD) : (⟨k0_dev9 c, k0_dev9_lt c⟩ : Dev nD) = fwd c 1 := by revert c; decide +kernel

/-! ## The buffers of the kernel -/

abbrev xM : Memref sig .tc .vmem S2x256x512 .bf16 := Memref.whole cc0_stg0_0
abbrev wqM : Memref sig .tc .vmem S512x256 .bf16 := Memref.whole cc0_stg1_0
abbrev kM : Memref sig .tc .vmem S16x2x256x64 .bf16 := Memref.whole cc0_stg2_0
abbrev vM : Memref sig .tc .vmem S16x2x256x64 .bf16 := Memref.whole cc0_stg3_0
abbrev woM : Memref sig .tc .vmem S256x512 .bf16 := Memref.whole cc0_stg4_0
abbrev oM : Memref sig .tc .vmem S2x256x512 .f32 := Memref.whole cc0_stg5_0
abbrev gqM : Memref sig .tc .vmem S4x512x256 .bf16 := Memref.whole cc0_scratch0
abbrev goM : Memref sig .tc .vmem S4x256x512 .bf16 := Memref.whole cc0_scratch1
abbrev xbM : Memref sig .tc .vmem S2x256x512 .bf16 := Memref.whole cc0_scratch2

theorem slotQ_inb (j : Fin 4) : ∀ a, (![j.val, 0, 0] : Fin 3 → ℕ) a + S1x512x256.size a ≤ S4x512x256.size a := by
  revert j; decide +kernel
theorem slotO_inb (j : Fin 4) : ∀ a, (![j.val, 0, 0] : Fin 3 → ℕ) a + S1x256x512.size a ≤ S4x256x512.size a := by
  revert j; decide +kernel

/-- Slot `j` of the gather buffer of the `Wq` blocks. -/
def slotQ (j : Fin 4) : Memref sig .tc .vmem S512x256 .bf16 :=
  (gqM.slice (Rect.unit (s := S4x512x256) ![j.val, 0, 0] S1x512x256.size (slotQ_inb j)) (fun _ => rfl)).squeeze S512x256 squeezes_S1x512x256_S512x256
/-- Slot `j` of the gather buffer of the `Wo` blocks. -/
def slotO (j : Fin 4) : Memref sig .tc .vmem S256x512 .bf16 :=
  (goM.slice (Rect.unit (s := S4x256x512) ![j.val, 0, 0] S1x256x512.size (slotO_inb j)) (fun _ => rfl)).squeeze S256x512 squeezes_S1x256x512_S256x512

/-- A slice of the first gather buffer whose printed offset is `(j, 0, 0)` is slot `j`. -/
theorem sliceQ_eq {o : Fin 3 → ℕ} (j : Fin 4) (h : o = ![j.val, 0, 0]) (hin : ∀ a, o a + S1x512x256.size a ≤ S4x512x256.size a) :
    (gqM.slice (Rect.unit (s := S4x512x256) o S1x512x256.size hin) (fun _ => rfl)).squeeze S512x256 squeezes_S1x512x256_S512x256 = slotQ j := by
  subst h; rfl
theorem sliceO_eq {o : Fin 3 → ℕ} (j : Fin 4) (h : o = ![j.val, 0, 0]) (hin : ∀ a, o a + S1x256x512.size a ≤ S4x256x512.size a) :
    (goM.slice (Rect.unit (s := S4x256x512) o S1x256x512.size hin) (fun _ => rfl)).squeeze S256x512 squeezes_S1x256x512_S256x512 = slotO j := by
  subst h; rfl

theorem off1_eq (c : Dev nD) : k0_off1 c = ![c.val, 0, 0] := by revert c; decide +kernel
theorem off2_eq (c : Dev nD) : k0_off2 c = ![c.val, 0, 0] := by revert c; decide +kernel
theorem off5_eq (c : Dev nD) (r : Fin 3) : k0_off5 c (BitVec.ofNat 32 (1 + r.val)) = ![(bwd c (inv r.succ)).val, 0, 0] := by
  revert c r; decide +kernel
theorem off6_eq (c : Dev nD) (r : Fin 3) : k0_off6 c (BitVec.ofNat 32 (1 + r.val)) = ![(bwd c (inv r.succ)).val, 0, 0] := by
  revert c r; decide +kernel
theorem off7_eq (c : Dev nD) (r : Fin 3) : k0_off7 c (BitVec.ofNat 32 (1 + r.val)) = ![(bwd c (inv r.succ)).val, 0, 0] := by
  revert c r; decide +kernel
theorem off8_eq (c : Dev nD) (r : Fin 3) : k0_off8 c (BitVec.ofNat 32 (1 + r.val)) = ![(bwd c (inv r.succ)).val, 0, 0] := by
  revert c r; decide +kernel

/-- The elements of slot `j` of the first gather buffer: first coordinate `j`. -/
theorem mem_slotQ (j : Fin 4) (i : S4x512x256.Idx) : i ∈ ((slotQ j).view.set : Finset S4x512x256.Idx) ↔ (i 0).val = j.val := by
  have e : ((slotQ j).view.set : Finset S4x512x256.Idx) = (Rect.unit (s := S4x512x256) ![j.val, 0, 0] S1x512x256.size (slotQ_inb j)).set := by
    show ((gqM.view.slice _).reshape _ _).set = _
    rw [View.set_reshape]; exact View.set_slice_whole _ _
  refine (iff_of_eq (congrArg (fun S : Finset _ => i ∈ S) e)).trans (Rect.mem_set_unit.trans ?_)
  constructor
  · intro h
    have h0 := h 0
    have : (S1x512x256.size 0) = 1 := rfl
    simp only [Matrix.cons_val_zero, this] at h0
    omega
  · intro h a
    fin_cases a
    · show j.val ≤ (i 0).val ∧ (i 0).val < j.val + 1; omega
    · exact ⟨Nat.zero_le _, (Nat.zero_add _).symm ▸ (i 1).isLt⟩
    · exact ⟨Nat.zero_le _, (Nat.zero_add _).symm ▸ (i 2).isLt⟩
theorem mem_slotO (j : Fin 4) (i : S4x256x512.Idx) : i ∈ ((slotO j).view.set : Finset S4x256x512.Idx) ↔ (i 0).val = j.val := by
  have e : ((slotO j).view.set : Finset S4x256x512.Idx) = (Rect.unit (s := S4x256x512) ![j.val, 0, 0] S1x256x512.size (slotO_inb j)).set := by
    show ((goM.view.slice _).reshape _ _).set = _
    rw [View.set_reshape]; exact View.set_slice_whole _ _
  refine (iff_of_eq (congrArg (fun S : Finset _ => i ∈ S) e)).trans (Rect.mem_set_unit.trans ?_)
  constructor
  · intro h
    have h0 := h 0
    have : (S1x256x512.size 0) = 1 := rfl
    simp only [Matrix.cons_val_zero, this] at h0
    omega
  · intro h a
    fin_cases a
    · show j.val ≤ (i 0).val ∧ (i 0).val < j.val + 1; omega
    · exact ⟨Nat.zero_le _, (Nat.zero_add _).symm ▸ (i 1).isLt⟩
    · exact ⟨Nat.zero_le _, (Nat.zero_add _).symm ▸ (i 2).isLt⟩

/-! ## The cells -/

/-- The barrier semaphore of collective id 0. -/
abbrev barS : Sem sig := (SemArray.scalar (sig.barrier 0 rfl) : Sems sig S_).sem
/-- The send semaphore of block `t` (`0` for `Wq`, `1` for `Wo`) at distance `o`. -/
def sS (t : Fin 2) (o : Fin 4) : DmaSem sig := (⟨6 + 4 * t.val + o.val, by have := t.isLt; have := o.isLt; show _ < 22; omega⟩ : Fin 22)
/-- The receive semaphore. -/
def rS (t : Fin 2) (o : Fin 4) : DmaSem sig := (⟨14 + 4 * t.val + o.val, by have := t.isLt; have := o.isLt; show _ < 22; omega⟩ : Fin 22)

abbrev barCell (c : Dev nD) : GSem nD τ sig := ((c : Thread nD τ), .reg barS)
abbrev sendCell (c : Dev nD) (t : Fin 2) (o : Fin 4) : GSem nD τ sig := ((c : Thread nD τ), .dma (sS t o))
abbrev recvCell (c : Dev nD) (t : Fin 2) (o : Fin 4) : GSem nD τ sig := ((c : Thread nD τ), .dma (rS t o))

/-- The use of a semaphore. -/
inductive Use : Type where
  | bar | send (t : Fin 2) (o : Fin 4) | recv (t : Fin 2) (o : Fin 4) | none

/-- The use of each semaphore of the program. -/
def use : SemLoc sig → Use
  | .reg _ => .bar
  | .dma k =>
    if (k : Fin 22).val < 6 then .none
    else if (k : Fin 22).val < 14 then
      .send ⟨((k : Fin 22).val - 6) / 4 % 2, Nat.mod_lt _ (by decide)⟩ ⟨((k : Fin 22).val - 6) % 4, Nat.mod_lt _ (by decide)⟩
    else .recv ⟨((k : Fin 22).val - 14) / 4 % 2, Nat.mod_lt _ (by decide)⟩ ⟨((k : Fin 22).val - 14) % 4, Nat.mod_lt _ (by decide)⟩

theorem use_bar : use (.reg barS) = .bar := rfl
theorem use_send (t : Fin 2) (o : Fin 4) : use (.dma (sS t o)) = .send t o := by
  fin_cases t <;> fin_cases o <;> rfl
theorem use_recv (t : Fin 2) (o : Fin 4) : use (.dma (rS t o)) = .recv t o := by
  fin_cases t <;> fin_cases o <;> rfl

/-- The credit of one transfer of either block. -/
abbrev N : ℕ := wqM.view.dmaCredit
theorem N_pos : 0 < N := View.dmaCredit_pos _ (by decide)

/-! ## The payloads -/

section Payloads

variable (WQ : Dev nD → (cc0_stg1_0 : Ref sig .tc).ty.Contents (Elt F)) (WO : Dev nD → (cc0_stg4_0 : Ref sig .tc).ty.Contents (Elt F))

/-- The share of a source block lent to its transfer at distance `o`. -/
def lent (o : Fin 4) : PosShare TreeShare :=
  match o with
  | 0 => fullShare.left.left | 1 => fullShare.left.right | 2 => fullShare.right.left | 3 => fullShare.right.right

/-- The distance from `j` to `d`. -/
def gap (j d : Dev nD) : Fin 4 := ⟨(d.val + (4 - j.val)) % 4, Nat.mod_lt _ (by decide)⟩
theorem gap_fwd (c : Dev nD) (o : Fin 4) : gap c (fwd c o) = o := by revert c o; decide

/-- Slot `j` of device `d` at any contents, and that `d` stands at round 0 of the receive cell that device `j` credits when it
    fills the slot. -/
def slotQAny (d : Dev nD) (j : Dev nD) : sProp 𝕄 :=
  iprop((∃ f, (slotQ j).view.loc (d : Thread nD τ) ↦[(slotQ j).view.set]{fullShare} f) ∗ reached ER (recvCell d 0 (gap j d)) 0)
def slotOAny (d : Dev nD) (j : Dev nD) : sProp 𝕄 :=
  iprop((∃ f, (slotO j).view.loc (d : Thread nD τ) ↦[(slotO j).view.set]{fullShare} f) ∗ reached ER (recvCell d 1 (gap j d)) 0)

/-- What the signal at distance `o` hands device `c` at its barrier: the two slots `c` of the signaller. -/
def barPay (c : Dev nD) (o : Fin 4) : sProp 𝕄 :=
  iprop(slotQAny (bwd c o) c ∗ slotOAny (bwd c o) c)
/-- What arrives at `d`'s receive cell: the slot of the sender, holding its block. -/
def recvPay (d : Dev nD) (t : Fin 2) (o : Fin 4) : sProp 𝕄 :=
  match t with
  | 0 => owns (d : Thread nD τ) (slotQ (bwd d o)) fullShare (WQ (bwd d o))
  | 1 => owns (d : Thread nD τ) (slotO (bwd d o)) fullShare (WO (bwd d o))
/-- What comes back at a send cell: the lent share of the source block. -/
def sendPay (c : Dev nD) (t : Fin 2) (o : Fin 4) : sProp 𝕄 :=
  match t with
  | 0 => wqM.view.loc (c : Thread nD τ) ↦[wqM.view.set]{lent o} WQ c
  | 1 => woM.view.loc (c : Thread nD τ) ↦[woM.view.set]{lent o} WO c

instance barPay_storable (c : Dev nD) (o : Fin 4) : BI.Storable (upEmb : UEmb _ 𝕄) (barPay (F := F) c o) := by
  unfold barPay slotQAny slotOAny; infer_instance
instance recvPay_storable (c : Dev nD) (t : Fin 2) (o : Fin 4) : BI.Storable (upEmb : UEmb _ 𝕄) (recvPay (F := F) WQ WO c t o) := by
  unfold recvPay; fin_cases t <;> infer_instance
instance sendPay_storable (c : Dev nD) (t : Fin 2) (o : Fin 4) : BI.Storable (upEmb : UEmb _ 𝕄) (sendPay (F := F) WQ WO c t o) := by
  unfold sendPay; fin_cases t <;> infer_instance

/-! ## The schedule -/

/-- The duties of a cell by its use: a barrier cell has the three distances, a send or receive cell of a distance that is
    not `0` one duty. -/
def dutiesOf : Use → Finset (Fin 4)
  | .bar => {1, 2, 3}
  | .send _ o => if o = 0 then ∅ else {0}
  | .recv _ o => if o = 0 then ∅ else {0}
  | .none => ∅
def amountOf : Use → ℕ
  | .bar => 1
  | _ => N
def payOf (c : Dev nD) (d : Fin 4) : Use → sProp 𝕄
  | .bar => barPay c d
  | .send t o => sendPay WQ WO c t o
  | .recv t o => recvPay WQ WO c t o
  | .none => iprop(emp)

/-- The schedule: every cell has one round, round 0. -/
def rd : Rounds.Schedule (GSem nD τ sig) (Fin 4) 𝕄 where
  duties g r := if r = 0 ∧ g.1.2 = .tc then dutiesOf (use g.2) else ∅
  unitless _ := False
  amount g _ _ := amountOf (use g.2)
  payload g _ d := payOf WQ WO g.1.1 d (use g.2)
  amount_pos g _ _ _ := by
    cases h : use g.2 with
    | bar => exact Nat.one_pos
    | _ => exact N_pos

instance rd_payload_storable (g : GSem nD τ sig) (r : ℕ) (d : Fin 4) :
    BI.Storable (upEmb : UEmb _ 𝕄) ((rd (F := F) WQ WO).payload g r d) := by
  show BI.Storable upEmb (payOf WQ WO g.1.1 d (use g.2))
  cases use g.2 <;> (unfold payOf; infer_instance)

section Sched
variable (c : Dev nD) (t : Fin 2) (o : Fin 4)

theorem duties_bar : (rd (F := F) WQ WO).duties (barCell c) 0 = {1, 2, 3} := by
  dsimp only [rd]; rw [if_pos ⟨rfl, rfl⟩]; rfl
theorem duties_send (h : o ≠ 0) : (rd (F := F) WQ WO).duties (sendCell c t o) 0 = {0} := by
  dsimp only [rd]; rw [if_pos ⟨rfl, rfl⟩, use_send]; exact if_neg h
theorem duties_recv (h : o ≠ 0) : (rd (F := F) WQ WO).duties (recvCell c t o) 0 = {0} := by
  dsimp only [rd]; rw [if_pos ⟨rfl, rfl⟩, use_recv]; exact if_neg h
theorem duties_later (g : GSem nD τ sig) : ∀ r, 1 ≤ r → (rd (F := F) WQ WO).duties g r = ∅ :=
  fun r hr => by dsimp only [rd]; rw [if_neg fun h => by omega]
theorem duties_send_zero : ∀ r, 0 ≤ r → (rd (F := F) WQ WO).duties (sendCell c t 0) r = ∅ := fun r _ => by
  dsimp only [rd]; rw [use_send]; split <;> rfl
theorem duties_recv_zero : ∀ r, 0 ≤ r → (rd (F := F) WQ WO).duties (recvCell c t 0) r = ∅ := fun r _ => by
  dsimp only [rd]; rw [use_recv]; split <;> rfl

theorem amount_bar (d : Fin 4) : (rd (F := F) WQ WO).amount (barCell c) 0 d = 1 := rfl
theorem amount_send (d : Fin 4) : (rd (F := F) WQ WO).amount (sendCell c t o) 0 d = N := by
  dsimp only [rd]; rw [use_send]; rfl
theorem amount_recv (d : Fin 4) : (rd (F := F) WQ WO).amount (recvCell c t o) 0 d = N := by
  dsimp only [rd]; rw [use_recv]; rfl

theorem expect_bar : (rd (F := F) WQ WO).expect (barCell c) 0 = 3 := by
  unfold Schedule.expect Schedule.amountOf; rw [duties_bar]; rfl
theorem expect_send (h : o ≠ 0) : (rd (F := F) WQ WO).expect (sendCell c t o) 0 = N := by
  unfold Schedule.expect Schedule.amountOf; rw [duties_send WQ WO c t o h, Finset.sum_singleton, amount_send]
theorem expect_recv (h : o ≠ 0) : (rd (F := F) WQ WO).expect (recvCell c t o) 0 = N := by
  unfold Schedule.expect Schedule.amountOf; rw [duties_recv WQ WO c t o h, Finset.sum_singleton, amount_recv]

theorem payload_bar (d : Fin 4) : (rd (F := F) WQ WO).payload (barCell c) 0 d = barPay c d := rfl
theorem payload_send (d : Fin 4) : (rd (F := F) WQ WO).payload (sendCell c t o) 0 d = sendPay WQ WO c t o := by
  dsimp only [rd]; rw [use_send]; rfl
theorem payload_recv (d : Fin 4) : (rd (F := F) WQ WO).payload (recvCell c t o) 0 d = recvPay WQ WO c t o := by
  dsimp only [rd]; rw [use_recv]; rfl

theorem rest_bar : bigSep ((rd (F := F) WQ WO).duties (barCell c) 0 \ ∅) (fun d => (rd (F := F) WQ WO).payload (barCell c) 0 d)
    = iprop(barPay c 1 ∗ barPay c 2 ∗ barPay c 3) := by
  rw [Finset.sdiff_empty, duties_bar, bigSep_insert (by decide), bigSep_insert (by decide), bigSep_singleton]
  rfl
theorem rest_send (h : o ≠ 0) : bigSep ((rd (F := F) WQ WO).duties (sendCell c t o) 0 \ ∅) (fun d => (rd (F := F) WQ WO).payload (sendCell c t o) 0 d)
    = sendPay WQ WO c t o := by
  rw [Finset.sdiff_empty, duties_send WQ WO c t o h, bigSep_singleton, payload_send]
theorem rest_recv (h : o ≠ 0) : bigSep ((rd (F := F) WQ WO).duties (recvCell c t o) 0 \ ∅) (fun d => (rd (F := F) WQ WO).payload (recvCell c t o) 0 d)
    = recvPay WQ WO c t o := by
  rw [Finset.sdiff_empty, duties_recv WQ WO c t o h, bigSep_singleton, payload_recv]

end Sched

end Payloads

/-! ## What a device owes at launch, and the levels -/

/-- The credit of the six transfers, in the order they are paid from the right. -/
def OR (c : Dev nD) : CellTallies nD τ sig Unit :=
  tallyAt (recvCell (fwd c 1) 1 1) () N + tallyAt (recvCell (fwd c 1) 0 1) () N + tallyAt (recvCell (fwd c 2) 1 2) () N
    + tallyAt (recvCell (fwd c 2) 0 2) () N + tallyAt (recvCell (fwd c 3) 1 3) () N + tallyAt (recvCell (fwd c 3) 0 3) () N
/-- With the three barrier signals. -/
def O₀ (c : Dev nD) : CellTallies nD τ sig Unit :=
  OR c + tallyAt (barCell (fwd c 3)) () 1 + tallyAt (barCell (fwd c 2)) () 1 + tallyAt (barCell (fwd c 1)) () 1

def L (g : GSem nD τ sig) : Finset Unit := if g.1.2 = .tc then {()} else ∅
/-- Barrier cells at level 1, receive cells at level 2, the rest at 0. -/
def lv (g : GSem nD τ sig) (_ : Unit) : ℕ :=
  match use g.2 with
  | .bar => 1
  | .recv _ _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (t : Fin 2) (o : Fin 4) (u : Unit) : lv (recvCell c t o) u = 2 := by
  unfold lv; dsimp only; rw [use_recv]

theorem OR_pos {c : Dev nD} {g : GSem nD τ sig} {u : Unit} (h : 0 < OR c g u) : ∃ d t o, g = recvCell d t o := by
  unfold OR at h
  simp only [Pi.add_apply, Finsupp.add_apply, tallyAt_apply] at h
  by_contra hn
  have hf : ∀ d t o, ¬ (g = recvCell d t o ∧ True) := fun d t o h' => hn ⟨d, t, o, h'.1⟩
  rw [if_neg (hf _ _ _), if_neg (hf _ _ _), if_neg (hf _ _ _), if_neg (hf _ _ _), if_neg (hf _ _ _), if_neg (hf _ _ _)] at h
  exact Nat.lt_irrefl 0 h
theorem O₀_pos {c : Dev nD} {g : GSem nD τ sig} {u : Unit} (h : 0 < O₀ c g u) : (∃ d t o, g = recvCell d t o) ∨ ∃ d, g = barCell d := by
  unfold O₀ at h
  simp only [Pi.add_apply, Finsupp.add_apply, tallyAt_apply] at h
  by_contra hn
  rw [not_or] at hn
  have hf : ∀ d, ¬ (g = barCell d ∧ True) := fun d h' => hn.2 ⟨d, h'.1⟩
  rw [if_neg (hf _), if_neg (hf _), if_neg (hf _)] at h
  exact hn.1 (OR_pos (c := c) (u := u) h)

/-- At its barrier wait a device owes receive cells only, above its barrier cell. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, t, o, rfl⟩ := OR_pos hg; rw [L_tc]; exact Finset.mem_singleton_self _)
    (fun p hp => by rw [Finset.mem_singleton.mp hp]; exact (lv_bar c _).le)
    (fun g u hg => by obtain ⟨d, t, o, rfl⟩ := OR_pos hg; rw [lv_recv]; decide)

end Cert.BlockAttn
-- ==== Proof.Values.lean ====
/-
What the kernel computes on one device, named.

A device takes its two batch entries `b = 0, 1` through the four weight blocks of the mesh in the order of distance
`o = 0, 1, 2, 3`. For every block it forms the scaled queries `qOf`, for each of the four heads of the block the context
`headCtx`, and adds the product of the four contexts with the block of `Wo` (`contrib`) to what it has.
-/
module

public import proofs.«01_k».proof.Proof.Protocol
public import proofs.«01_k».proof.Proof.Gen.KernelIdeal.Skeleton
public import Idealize.ShloMosaic.Lib.ValueIdxCore
public import Idealize.ShloMosaic.Lib.Pipeline.Value

@[expose] public section

noncomputable section

namespace Cert.BlockAttn

open Cert.KernelIdeal Cert.KernelIdeal.Gen

open Idealize.ShloMosaic
open Idealize.ShloMosaic.TcCoe
open Idealize.ShloMosaic.ValueIdx
open Idealize.SL Idealize.SL.RA Idealize.SL.BI

variable {F : FTy → Type} [FloatOps F]

/-! ## The block mask, the queries, the context of a head, the contribution of a block -/

/-- Row block at least column block. -/
def maskV : IVec S256x256 1 := k0_pay6 k0_pay3 (iota .tc S256x256 32 [1] iota_S256x256_d1_w32) 64#32 k0_pay4 k0_pay5

/-- The scaled queries of one batch entry against one block of `Wq`. -/
def qOf (wq : FVec F S512x256 .bf16) (x : Vec F S1x256x512 .bf16) : FVec F S256x256 .bf16 :=
  truncf .bf16 (mulf (matmul dot_S256x512_S512x256_S256x256_1_0_0_1_n_n none (shapeCast S256x512 x shapeCasts_S1x256x512_S256x512 : FVec F S256x512 .bf16) wq
    (constant S256x256 .f32 0x00000000#32)) (broadcast S256x256 (Scalar.ofBits .f32 0x3E000000#32 : F .f32))) bitsLt_bf16_f32

theorem slices_head (h : Fin 4) : S256x256.Slices ![0, 64 * h.val] S256x64 := by
  fin_cases h
  · exact slices_S256x256_o0_0_S256x64
  · exact slices_S256x256_o0_64_S256x64
  · exact slices_S256x256_o0_128_S256x64
  · exact slices_S256x256_o0_192_S256x64
theorem slices_wo (h : Fin 4) : S256x512.Slices ![64 * h.val, 0] S64x512 := by
  fin_cases h
  · exact slices_S256x512_o0_0_S64x512
  · exact slices_S256x512_o64_0_S64x512
  · exact slices_S256x512_o128_0_S64x512
  · exact slices_S256x512_o192_0_S64x512

/-- The exponentials of the masked scores of a head. -/
def headExp (h : Fin 4) (q : FVec F S256x256 .bf16) (k : Vec F S1x1x256x64 .bf16) : FVec F S256x256 .bf16 :=
  exp (truncf .bf16 (select maskV (matmul dot_S256x64_S256x64_S256x256_1_1_0_0_n_n none (extractStridedSlice S256x64 ![0, 64 * h.val] q (slices_head h))
    (shapeCast S256x64 k shapeCasts_S1x1x256x64_S256x64 : FVec F S256x64 .bf16) (constant S256x256 .f32 0x00000000#32))
    (broadcast S256x256 (Scalar.ofBits .f32 0xCE6E6B28#32 : F .f32))) bitsLt_bf16_f32)

/-- The context of a head: the exponentials times the values, over the row sums of the exponentials. -/
def headCtx (h : Fin 4) (q : FVec F S256x256 .bf16) (k v : Vec F S1x1x256x64 .bf16) : FVec F S256x64 .bf16 :=
  truncf .bf16 (divf (matmul dot_S256x256_S256x64_S256x64_1_0_0_1_n_n none (headExp h q k) (shapeCast S256x64 v shapeCasts_S1x1x256x64_S256x64 : FVec F S256x64 .bf16)
      (constant S256x64 .f32 0x00000000#32))
    (broadcastTo S256x64 (shapeCast S256x1 (multiReduction .add [1] S256 (extf .f32 (headExp h q k) bitsLt_bf16_f32) 0x00000000#32
      reduces_S256x256_S256 (.inl rfl) rfl : FVec F S256 .f32) shapeCasts_S256_S256x1 : FVec F S256x1 .f32) broadcasts_S256x1_S256x64)) bitsLt_bf16_f32

/-- One head's rows of a block of `Wo`, multiplied by the context. -/
def headOut (h : Fin 4) (x : FVec F S256x64 .bf16) (wo : FVec F S256x512 .bf16) : FVec F S256x512 .f32 :=
  matmul dot_S256x64_S64x512_S256x512_1_0_0_1_n_n none x (extractStridedSlice S64x512 ![64 * h.val, 0] wo (slices_wo h)) (constant S256x512 .f32 0x00000000#32)

/-- The contribution of a block: the four heads, summed in pairs. -/
def contrib (x : Fin 4 → FVec F S256x64 .bf16) (wo : FVec F S256x512 .bf16) : FVec F S256x512 .f32 :=
  addf (addf (headOut 0 (x 0) wo) (headOut 1 (x 1) wo)) (addf (headOut 2 (x 2) wo) (headOut 3 (x 3) wo))

/-- A first contribution stored, and a later one added to what is there. -/
def put (x : FVec F S256x512 .f32) : FVec F S1x256x512 .f32 := shapeCast S1x256x512 x shapeCasts_S256x512_S1x256x512
def addTo (a : Vec F S1x256x512 .f32) (x : FVec F S256x512 .f32) : FVec F S1x256x512 .f32 :=
  put (addf (shapeCast S256x512 a shapeCasts_S1x256x512_S256x512 : FVec F S256x512 .f32) x)

/-! ## The windows a device loads -/

abbrev rX (b : Fin 2) : Rect S2x256x512 :=
  match b with
  | 0 => Rect.unit (s := S2x256x512) ![0, 0, 0] S1x256x512.size inb_S2x256x512_S1x256x512_0_0_0
  | 1 => Rect.unit (s := S2x256x512) ![1, 0, 0] S1x256x512.size inb_S2x256x512_S1x256x512_1_0_0

/-- Head `h` of the block at distance `o`, batch entry `b`, of the keys or the values. -/
def ldK (K : (cc0_stg2_0 : Ref sig .tc).ty.Contents (Elt F)) (c : Dev nD) (o : Fin 4) (b : Fin 2) (h : Fin 4) : Vec F S1x1x256x64 .bf16 :=
  match b with
  | 0 => kM.view.readAt (Elt F) (Rect.unit (s := S16x2x256x64) (k0_off3 c (BitVec.ofNat 32 o.val) (BitVec.ofNat 32 h.val)) S1x1x256x64.size (k0_off3_inb c o h)).toLoadRect K
  | 1 => kM.view.readAt (Elt F) (Rect.unit (s := S16x2x256x64) (k0_off4 c (BitVec.ofNat 32 o.val) (BitVec.ofNat 32 h.val)) S1x1x256x64.size (k0_off4_inb c o h)).toLoadRect K
def ldV (V : (cc0_stg3_0 : Ref sig .tc).ty.Contents (Elt F)) (c : Dev nD) (o : Fin 4) (b : Fin 2) (h : Fin 4) : Vec F S1x1x256x64 .bf16 :=
  match b with
  | 0 => vM.view.readAt (Elt F) (Rect.unit (s := S16x2x256x64) (k0_off3 c (BitVec.ofNat 32 o.val) (BitVec.ofNat 32 h.val)) S1x1x256x64.size (k0_off3_inb c o h)).toLoadRect V
  | 1 => vM.view.readAt (Elt F) (Rect.unit (s := S16x2x256x64) (k0_off4 c (BitVec.ofNat 32 o.val) (BitVec.ofNat 32 h.val)) S1x1x256x64.size (k0_off4_inb c o h)).toLoadRect V
/-- A slot of a gather buffer at distance `r + 1`, as loaded. -/
def ldGQ (c : Dev nD) (r : Fin 3) (f : (cc0_scratch0 : Ref sig .tc).ty.Contents (Elt F)) : Vec F S1x512x256 .bf16 :=
  gqM.view.readAt (Elt F) (Rect.unit (s := S4x512x256) (k0_off6 c (BitVec.ofNat 32 (1 + r.val))) S1x512x256.size (k0_off6_inb c r)).toLoadRect f
def ldGO (c : Dev nD) (r : Fin 3) (f : (cc0_scratch1 : Ref sig .tc).ty.Contents (Elt F)) : Vec F S1x256x512 .bf16 :=
  goM.view.readAt (Elt F) (Rect.unit (s := S4x256x512) (k0_off8 c (BitVec.ofNat 32 (1 + r.val))) S1x256x512.size (k0_off8_inb c r)).toLoadRect f

/-- Loading the window of a slot gives the slot's contents. -/
theorem ldGQ_eq (c : Dev nD) (r : Fin 3) (f : (cc0_scratch0 : Ref sig .tc).ty.Contents (Elt F)) :
    (shapeCast S512x256 (ldGQ c r f) shapeCasts_S1x512x256_S512x256 : FVec F S512x256 .bf16) = (slotQ (bwd c (inv r.succ))).view.read (Elt F) f := by
  unfold ldGQ
  generalize hh : k0_off6_inb c r = hin
  clear hh
  revert hin
  rw [off6_eq c r]
  intro hin
  rfl
theorem ldGO_eq (c : Dev nD) (r : Fin 3) (f : (cc0_scratch1 : Ref sig .tc).ty.Contents (Elt F)) :
    (shapeCast S256x512 (ldGO c r f) shapeCasts_S1x256x512_S256x512 : FVec F S256x512 .bf16) = (slotO (bwd c (inv r.succ))).view.read (Elt F) f := by
  unfold ldGO
  generalize hh : k0_off8_inb c r = hin
  clear hh
  revert hin
  rw [off8_eq c r]
  intro hin
  rfl

/-! ## The two batch entries of a buffer -/

/-- A buffer of two batch entries. -/
def pair {α : Type} (a b : S1x256x512.Idx → α) : S2x256x512.Idx → α :=
  fun i => if (i 0).val = 0 then a (ix3 0 (i 1) (i 2)) else b (ix3 0 (i 1) (i 2))
/-- Batch entry `b` of a buffer of two. -/
def entry {α : Type} (f : S2x256x512.Idx → α) (b : Fin 2) : S1x256x512.Idx → α := fun x => f (ix3 b (x 1) (x 2))

theorem eta1 (x : S1x256x512.Idx) : ix3 (0 : Fin 1) (x 1) (x 2) = x := by
  refine (congrArg (fun k : Fin 1 => (ix3 k (x 1) (x 2) : S1x256x512.Idx)) ?_).trans (eq_ix3 (n0 := 1) (n1 := 256) (n2 := 512) x).symm
  exact (Subsingleton.elim (α := Fin 1) _ _)

theorem pair_entry {α : Type} (f : S2x256x512.Idx → α) : pair (entry f 0) (entry f 1) = f := by
  have key : ∀ (k : Fin 2) (y : Fin 256) (z : Fin 512), pair (entry f 0) (entry f 1) (ix3 k y z) = f (ix3 k y z) := fun k y z =>
    match k with
    | 0 => if_pos (c := ((ix3 (0 : Fin 2) y z : S2x256x512.Idx) 0).val = 0) rfl
    | 1 => if_neg (c := ((ix3 (1 : Fin 2) y z : S2x256x512.Idx) 0).val = 0) Nat.one_ne_zero
  funext i
  rw [eq_ix3 (n0 := 2) (n1 := 256) (n2 := 512) i]
  exact key _ _ _
theorem entry_pair0 {α : Type} (a b : S1x256x512.Idx → α) : entry (pair a b) 0 = a := by
  funext x
  exact (if_pos (c := ((ix3 (0 : Fin 2) (x 1) (x 2) : S2x256x512.Idx) 0).val = 0) rfl : (if ((ix3 (0 : Fin 2) (x 1) (x 2) : S2x256x512.Idx) 0).val = 0 then a (ix3 0 (x 1) (x 2)) else b (ix3 0 (x 1) (x 2))) = _).trans (congrArg a (eta1 x))
theorem entry_pair1 {α : Type} (a b : S1x256x512.Idx → α) : entry (pair a b) 1 = b := by
  funext x
  exact (if_neg (c := ((ix3 (1 : Fin 2) (x 1) (x 2) : S2x256x512.Idx) 0).val = 0) Nat.one_ne_zero : (if ((ix3 (1 : Fin 2) (x 1) (x 2) : S2x256x512.Idx) 0).val = 0 then a (ix3 0 (x 1) (x 2)) else b (ix3 0 (x 1) (x 2))) = _).trans (congrArg b (eta1 x))

theorem rX_emb0 (x : S1x256x512.Idx) : ((rX 0).emb x : S2x256x512.Idx) = ix3 0 (x 1) (x 2) := by
  have h0 : (x 0).val < 1 := (x 0).isLt
  refine (eq_ix3 (n0 := 2) (n1 := 256) (n2 := 512) ((rX 0).emb x)).trans ?_
  congr 1
  · exact Fin.ext (by show 0 + 1 * (x 0).val = 0; omega)
  · exact Fin.ext (by show 0 + 1 * (x 1).val = (x 1).val; omega)
  · exact Fin.ext (by show 0 + 1 * (x 2).val = (x 2).val; omega)
theorem rX_emb1 (x : S1x256x512.Idx) : ((rX 1).emb x : S2x256x512.Idx) = ix3 1 (x 1) (x 2) := by
  have h0 : (x 0).val < 1 := (x 0).isLt
  refine (eq_ix3 (n0 := 2) (n1 := 256) (n2 := 512) ((rX 1).emb x)).trans ?_
  congr 1
  · exact Fin.ext (by show 1 + 1 * (x 0).val = 1; omega)
  · exact Fin.ext (by show 0 + 1 * (x 1).val = (x 1).val; omega)
  · exact Fin.ext (by show 0 + 1 * (x 2).val = (x 2).val; omega)

/-- The two batch entries share no element. -/
theorem rX_ne (x y : S1x256x512.Idx) : ((rX 0).emb x : S2x256x512.Idx) ≠ (rX 1).emb y := fun h =>
  absurd (congrArg (fun i : S2x256x512.Idx => (i 0).val) ((rX_emb0 x).symm.trans (h.trans (rX_emb1 y)))) (by show ¬ (0 : ℕ) = 1; decide)
theorem oD01 : Disjoint (oM.view.slice (rX 0)).set ((oM.view.slice (rX 1)).setOn Finset.univ) := Finset.disjoint_left.mpr fun i h h' => by
  obtain ⟨x, -, rfl⟩ := Finset.mem_map.mp h
  obtain ⟨y, -, hy⟩ := Finset.mem_map.mp h'
  exact rX_ne x y hy.symm
theorem oD10 : Disjoint (oM.view.slice (rX 1)).set ((oM.view.slice (rX 0)).setOn Finset.univ) := oD01.symm
theorem xD01 : Disjoint (xbM.view.slice (rX 0)).set ((xbM.view.slice (rX 1)).setOn Finset.univ) := oD01
theorem xD10 : Disjoint (xbM.view.slice (rX 1)).set ((xbM.view.slice (rX 0)).setOn Finset.univ) := oD10

section Writes
variable (f : S2x256x512.Idx → Elt F .f32) (w : S1x256x512.Idx → Elt F .f32) (g : S2x256x512.Idx → Elt F .bf16) (u : S1x256x512.Idx → Elt F .bf16)

theorem oR0 : oM.view.readAt (Elt F) (rX 0).toLoadRect f = entry f 0 := funext fun x => congrArg f (rX_emb0 x)
theorem oR1 : oM.view.readAt (Elt F) (rX 1).toLoadRect f = entry f 1 := funext fun x => congrArg f (rX_emb1 x)
theorem xR0 : xbM.view.readAt (Elt F) (rX 0).toLoadRect g = entry g 0 := funext fun x => congrArg g (rX_emb0 x)
theorem xR1 : xbM.view.readAt (Elt F) (rX 1).toLoadRect g = entry g 1 := funext fun x => congrArg g (rX_emb1 x)

theorem sR0 : xM.view.readAt (Elt F) (rX 0).toLoadRect g = entry g 0 := funext fun x => congrArg g (rX_emb0 x)
theorem sR1 : xM.view.readAt (Elt F) (rX 1).toLoadRect g = entry g 1 := funext fun x => congrArg g (rX_emb1 x)
/-- Storing a batch entry replaces it and keeps the other. -/
theorem oW0 : (oM.access (rX 0)).write (Elt F) f w Finset.univ = pair w (entry f 1) := by
  refine (pair_entry _).symm.trans (congrArg₂ pair ?_ ?_)
  · exact (oR0 _).symm.trans (View.read_write_univ (v := oM.access (rX 0)) f w)
  · exact (oR1 _).symm.trans ((View.read_slice_write_slice_of_disjoint (v := oM.view) (rX 1) (rX 0) f w Finset.univ oD10).trans (oR1 f))
theorem oW1 : (oM.access (rX 1)).write (Elt F) f w Finset.univ = pair (entry f 0) w := by
  refine (pair_entry _).symm.trans (congrArg₂ pair ?_ ?_)
  · exact (oR0 _).symm.trans ((View.read_slice_write_slice_of_disjoint (v := oM.view) (rX 0) (rX 1) f w Finset.univ oD01).trans (oR0 f))
  · exact (oR1 _).symm.trans (View.read_write_univ (v := oM.access (rX 1)) f w)
theorem xW0 : (xbM.access (rX 0)).write (Elt F) g u Finset.univ = pair u (entry g 1) := by
  refine (pair_entry _).symm.trans (congrArg₂ pair ?_ ?_)
  · exact (xR0 _).symm.trans (View.read_write_univ (v := xbM.access (rX 0)) g u)
  · exact (xR1 _).symm.trans ((View.read_slice_write_slice_of_disjoint (v := xbM.view) (rX 1) (rX 0) g u Finset.univ xD10).trans (xR1 g))
theorem xW1 : (xbM.access (rX 1)).write (Elt F) g u Finset.univ = pair (entry g 0) u := by
  refine (pair_entry _).symm.trans (congrArg₂ pair ?_ ?_)
  · exact (xR0 _).symm.trans ((View.read_slice_write_slice_of_disjoint (v := xbM.view) (rX 0) (rX 1) g u Finset.univ xD01).trans (xR0 g))
  · exact (xR1 _).symm.trans (View.read_write_univ (v := xbM.access (rX 1)) g u)

/-- The copy of the block of `x`, entry by entry, is the block. -/
theorem copy0 (x : Vec F S1x256x512 .bf16) : k0_pay1 x = x := shapeCast_shapeCast x _ _
theorem copy1 (x : Vec F S1x256x512 .bf16) : k0_pay2 x = x := shapeCast_shapeCast x _ _
end Writes

/-! ## The running result -/

/-- One device's inputs of the computation: its blocks of `x`, the keys, the values, and the weight blocks of all devices. -/
structure In (F : FTy → Type) where
  X : S2x256x512.Idx → Elt F .bf16
  K : S16x2x256x64.Idx → Elt F .bf16
  V : S16x2x256x64.Idx → Elt F .bf16
  WQ : Dev nD → S512x256.Idx → Elt F .bf16
  WO : Dev nD → S256x512.Idx → Elt F .bf16

/-- The queries of batch entry `b` against the block at distance `o`. -/
def qV (I : In F) (c : Dev nD) (o : Fin 4) (b : Fin 2) : FVec F S256x256 .bf16 := qOf (I.WQ (fwd c o)) (entry I.X b)
/-- The context of head `h` of that block. -/
def cV (I : In F) (c : Dev nD) (o : Fin 4) (b : Fin 2) (h : Fin 4) : FVec F S256x64 .bf16 :=
  headCtx h (qV I c o b) (ldK I.K c o b h) (ldV I.V c o b h)
/-- The contribution of that block. -/
def nV (I : In F) (c : Dev nD) (o : Fin 4) (b : Fin 2) : FVec F S256x512 .f32 := contrib (cV I c o b) (I.WO (fwd c o))
/-- The result of batch entry `b` after the blocks at distances `0 … n`. -/
def accV (I : In F) (c : Dev nD) (b : Fin 2) : ℕ → FVec F S1x256x512 .f32
  | 0 => put (nV I c 0 b)
  | n + 1 => addTo (accV I c b n) (nV I c (Fin.ofNat 4 (n + 1)) b)
/-- The result. -/
def outV (I : In F) (c : Dev nD) : S2x256x512.Idx → Elt F .f32 := pair (accV I c 0 3) (accV I c 1 3)

end Cert.BlockAttn
-- ==== Proof.Steps.lean ====
/-
The parts of the body that only read: each part, from the keys, the values and the copied block of `x`, continues with the
values it names. Beside them the rules for loading and storing one batch entry of a buffer of two.
-/
module

public import proofs.«01_k».proof.Proof.Values

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## One batch entry of a buffer of two -/

section Rules
variable (c : Dev nD) {α : Type}

/-- A program that has come to its value continues with it. -/
theorem wp_done {Q : α → sProp 𝕄} {p : Prog (TpuEff nD τ sig (Elt F) Λ₀ .tc) α} {a : α} (h : p = .ret a) :
    Q a ⊢ wp frame (wpE (defs₀ (F := F)) 𝒱₀ (c : Thread nD τ) none) Set.univ p Q := by
  rw [h, wp_ret]; exact fupd_intro
theorem load_s0 {Q : α → sProp 𝕄} {q : PosShare TreeShare} {g : S2x256x512.Idx → Elt F .bf16} {hl : xM.view.LoadsAt (rX 0).toLoadRect}
    {k : ((rX 0).shape.Idx → Elt F .bf16) → Prog (TpuEff nD τ sig (Elt F) Λ₀ .tc) α} :
    (xM.view.loc (c : Thread nD τ) ↦{q} g)
      ⊢ iprop(((xM.view.loc (c : Thread nD τ) ↦{q} g) -∗ wp frame (wpE (defs₀ (F := F)) 𝒱₀ (c : Thread nD τ) none) Set.univ (k (entry g 0)) Q)
          -∗ wp frame (wpE (defs₀ (F := F)) 𝒱₀ (c : Thread nD τ) none) Set.univ (.op (.load xM (rX 0).toLoadRect hl) k) Q) := by
  have h := wp_load (defs := defs₀ (F := F)) (Γ := .empty) (Q := Q) 𝒱₀ (c : Thread nD τ) none Set.univ (m := xM) (r := (rX 0).toLoadRect) (hl := hl) (k := k) (q := q) (f := g)
    (Finset.subset_univ _)
  rw [sR0] at h
  exact h
theorem load_x0 {Q : α → sProp 𝕄} {q : PosShare TreeShare} {g : S2x256x512.Idx → Elt F .bf16} {hl : xbM.view.LoadsAt (rX 0).toLoadRect}
    {k : ((rX 0).shape.Idx → Elt F .bf16) → Prog (TpuEff nD τ sig (Elt F) Λ₀ .tc) α} :
    (xbM.view.loc (c : Thread nD τ) ↦{q} g)
      ⊢ iprop(((xbM.view.loc (c : Thread nD τ) ↦{q} g) -∗ wp frame (wpE (defs₀ (F := F)) 𝒱₀ (c : Thread nD τ) none) Set.univ (k (entry g 0)) Q)
          -∗ wp frame (wpE (defs₀ (F := F)) 𝒱₀ (c : Thread nD τ) none) Set.univ (.op (.load xbM (rX 0).toLoadRect hl) k) Q) := by
  have h := wp_load (defs := defs₀ (F := F)) (Γ := .empty) (Q := Q) 𝒱₀ (c : Thread nD τ) none Set.univ (m := xbM) (r := (rX 0).toLoadRect) (hl := hl) (k := k) (q := q) (f := g)
    (Finset.subset_univ _)
  rw [xR0] at h
  exact h
theorem load_o0 {Q : α → sProp 𝕄} {q : PosShare TreeShare} {g : S2x256x512.Idx → Elt F .f32} {hl : oM.view.LoadsAt (rX 0).toLoadRect}
    {k : ((rX 0).shape.Idx → Elt F .f32) → Prog (TpuEff nD τ sig (Elt F) Λ₀ .tc) α} :
    (oM.view.loc (c : Thread nD τ) ↦{q} g)
      ⊢ iprop(((oM.view.loc (c : Thread nD τ) ↦{q} g) -∗ wp frame (wpE (defs₀ (F := F)) 𝒱₀ (c : Thread nD τ) none) Set.univ (k (entry g 0)) Q)
          -∗ wp frame (wpE (defs₀ (F := F)) 𝒱₀ (c : Thread nD τ) none) Set.univ (.op (.load oM (rX 0).toLoadRect hl) k) Q) := by
  have h := wp_load (defs := defs₀ (F := F)) (Γ := .empty) (Q := Q) 𝒱₀ (c : Thread nD τ) none Set.univ (m := oM) (r := (rX 0).toLoadRect) (hl := hl) (k := k) (q := q) (f := g)
    (Finset.subset_univ _)
  rw [oR0] at h
  exact h
theorem store_x0 {Q : α → sProp 𝕄} {g : S2x256x512.Idx → Elt F .bf16} {w : (rX 0).shape.Idx → Elt F .bf16} {hx : (xbM.access (rX 0)).Stores Finset.univ}
    {hm : (Finset.univ : Finset (rX 0).shape.Idx) = Finset.univ ∨ ∀ a, (rX 0).stride a = 1} {k : PUnit → Prog (TpuEff nD τ sig (Elt F) Λ₀ .tc) α} :
    (xbM.view.loc (c : Thread nD τ) ↦{fullShare} g)
      ⊢ iprop(((xbM.view.loc (c : Thread nD τ) ↦{fullShare} pair w (entry g 1)) -∗ wp frame (wpE (defs₀ (F := F)) 𝒱₀ (c : Thread nD τ) none) Set.univ (k ⟨⟩) Q)
          -∗ wp frame (wpE (defs₀ (F := F)) 𝒱₀ (c : Thread nD τ) none) Set.univ (.op (.store xbM (rX 0) w Finset.univ hx hm) k) Q) := by
  have h := wp_store (defs := defs₀ (F := F)) (Γ := .empty) (Q := Q) 𝒱₀ (c : Thread nD τ) none Set.univ (m := xbM) (r := rX 0) (w := w) (Mk := Finset.univ) (hx := hx) (hm := hm)
    (k := k) (f := g) (Finset.subset_univ _)
  rw [xW0] at h
  exact h
theorem store_o0 {Q : α → sProp 𝕄} {g : S2x256x512.Idx → Elt F .f32} {w : (rX 0).shape.Idx → Elt F .f32} {hx : (oM.access (rX 0)).Stores Finset.univ}
    {hm : (Finset.univ : Finset (rX 0).shape.Idx) = Finset.univ ∨ ∀ a, (rX 0).stride a = 1} {k : PUnit → Prog (TpuEff nD τ sig (Elt F) Λ₀ .tc) α} :
    (oM.view.loc (c : Thread nD τ) ↦{fullShare} g)
      ⊢ iprop(((oM.view.loc (c : Thread nD τ) ↦{fullShare} pair w (entry g 1)) -∗ wp frame (wpE (defs₀ (F := F)) 𝒱₀ (c : Thread nD τ) none) Set.univ (k ⟨⟩) Q)
          -∗ wp frame (wpE (defs₀ (F := F)) 𝒱₀ (c : Thread nD τ) none) Set.univ (.op (.store oM (rX 0) w Finset.univ hx hm) k) Q) := by
  have h := wp_store (defs := defs₀ (F := F)) (Γ := .empty) (Q := Q) 𝒱₀ (c : Thread nD τ) none Set.univ (m := oM) (r := rX 0) (w := w) (Mk := Finset.univ) (hx := hx) (hm := hm)
    (k := k) (f := g) (Finset.subset_univ _)
  rw [oW0] at h
  exact h
theorem load_s1 {Q : α → sProp 𝕄} {q : PosShare TreeShare} {g : S2x256x512.Idx → Elt F .bf16} {hl : xM.view.LoadsAt (rX 1).toLoadRect}
    {k : ((rX 1).shape.Idx → Elt F .bf16) → Prog (TpuEff nD τ sig (Elt F) Λ₀ .tc) α} :
    (xM.view.loc (c : Thread nD τ) ↦{q} g)
      ⊢ iprop(((xM.view.loc (c : Thread nD τ) ↦{q} g) -∗ wp frame (wpE (defs₀ (F := F)) 𝒱₀ (c : Thread nD τ) none) Set.univ (k (entry g 1)) Q)
          -∗ wp frame (wpE (defs₀ (F := F)) 𝒱₀ (c : Thread nD τ) none) Set.univ (.op (.load xM (rX 1).toLoadRect hl) k) Q) := by
  have h := wp_load (defs := defs₀ (F := F)) (Γ := .empty) (Q := Q) 𝒱₀ (c : Thread nD τ) none Set.univ (m := xM) (r := (rX 1).toLoadRect) (hl := hl) (k := k) (q := q) (f := g)
    (Finset.subset_univ _)
  rw [sR1] at h
  exact h
theorem load_x1 {Q : α → sProp 𝕄} {q : PosShare TreeShare} {g : S2x256x512.Idx → Elt F .bf16} {hl : xbM.view.LoadsAt (rX 1).toLoadRect}
    {k : ((rX 1).shape.Idx → Elt F .bf16) → Prog (TpuEff nD τ sig (Elt F) Λ₀ .tc) α} :
    (xbM.view.loc (c : Thread nD τ) ↦{q} g)
      ⊢ iprop(((xbM.view.loc (c : Thread nD τ) ↦{q} g) -∗ wp frame (wpE (defs₀ (F := F)) 𝒱₀ (c : Thread nD τ) none) Set.univ (k (entry g 1)) Q)
          -∗ wp frame (wpE (defs₀ (F := F)) 𝒱₀ (c : Thread nD τ) none) Set.univ (.op (.load xbM (rX 1).toLoadRect hl) k) Q) := by
  have h := wp_load (defs := defs₀ (F := F)) (Γ := .empty) (Q := Q) 𝒱₀ (c : Thread nD τ) none Set.univ (m := xbM) (r := (rX 1).toLoadRect) (hl := hl) (k := k) (q := q) (f := g)
    (Finset.subset_univ _)
  rw [xR1] at h
  exact h
theorem load_o1 {Q : α → sProp 𝕄} {q : PosShare TreeShare} {g : S2x256x512.Idx → Elt F .f32} {hl : oM.view.LoadsAt (rX 1).toLoadRect}
    {k : ((rX 1).shape.Idx → Elt F .f32) → Prog (TpuEff nD τ sig (Elt F) Λ₀ .tc) α} :
    (oM.view.loc (c : Thread nD τ) ↦{q} g)
      ⊢ iprop(((oM.view.loc (c : Thread nD τ) ↦{q} g) -∗ wp frame (wpE (defs₀ (F := F)) 𝒱₀ (c : Thread nD τ) none) Set.univ (k (entry g 1)) Q)
          -∗ wp frame (wpE (defs₀ (F := F)) 𝒱₀ (c : Thread nD τ) none) Set.univ (.op (.load oM (rX 1).toLoadRect hl) k) Q) := by
  have h := wp_load (defs := defs₀ (F := F)) (Γ := .empty) (Q := Q) 𝒱₀ (c : Thread nD τ) none Set.univ (m := oM) (r := (rX 1).toLoadRect) (hl := hl) (k := k) (q := q) (f := g)
    (Finset.subset_univ _)
  rw [oR1] at h
  exact h
theorem store_x1 {Q : α → sProp 𝕄} {g : S2x256x512.Idx → Elt F .bf16} {w : (rX 1).shape.Idx → Elt F .bf16} {hx : (xbM.access (rX 1)).Stores Finset.univ}
    {hm : (Finset.univ : Finset (rX 1).shape.Idx) = Finset.univ ∨ ∀ a, (rX 1).stride a = 1} {k : PUnit → Prog (TpuEff nD τ sig (Elt F) Λ₀ .tc) α} :
    (xbM.view.loc (c : Thread nD τ) ↦{fullShare} g)
      ⊢ iprop(((xbM.view.loc (c : Thread nD τ) ↦{fullShare} pair (entry g 0) w) -∗ wp frame (wpE (defs₀ (F := F)) 𝒱₀ (c : Thread nD τ) none) Set.univ (k ⟨⟩) Q)
          -∗ wp frame (wpE (defs₀ (F := F)) 𝒱₀ (c : Thread nD τ) none) Set.univ (.op (.store xbM (rX 1) w Finset.univ hx hm) k) Q) := by
  have h := wp_store (defs := defs₀ (F := F)) (Γ := .empty) (Q := Q) 𝒱₀ (c : Thread nD τ) none Set.univ (m := xbM) (r := rX 1) (w := w) (Mk := Finset.univ) (hx := hx) (hm := hm)
    (k := k) (f := g) (Finset.subset_univ _)
  rw [xW1] at h
  exact h
theorem store_o1 {Q : α → sProp 𝕄} {g : S2x256x512.Idx → Elt F .f32} {w : (rX 1).shape.Idx → Elt F .f32} {hx : (oM.access (rX 1)).Stores Finset.univ}
    {hm : (Finset.univ : Finset (rX 1).shape.Idx) = Finset.univ ∨ ∀ a, (rX 1).stride a = 1} {k : PUnit → Prog (TpuEff nD τ sig (Elt F) Λ₀ .tc) α} :
    (oM.view.loc (c : Thread nD τ) ↦{fullShare} g)
      ⊢ iprop(((oM.view.loc (c : Thread nD τ) ↦{fullShare} pair (entry g 0) w) -∗ wp frame (wpE (defs₀ (F := F)) 𝒱₀ (c : Thread nD τ) none) Set.univ (k ⟨⟩) Q)
          -∗ wp frame (wpE (defs₀ (F := F)) 𝒱₀ (c : Thread nD τ) none) Set.univ (.op (.store oM (rX 1) w Finset.univ hx hm) k) Q) := by
  have h := wp_store (defs := defs₀ (F := F)) (Γ := .empty) (Q := Q) 𝒱₀ (c : Thread nD τ) none Set.univ (m := oM) (r := rX 1) (w := w) (Mk := Finset.univ) (hx := hx) (hm := hm)
    (k := k) (f := g) (Finset.subset_univ _)
  rw [oW1] at h
  exact h

end Rules

/-! ## The reading parts -/

/-- The keys, the values and the copied block of `x`. -/
def KVX (K V : S16x2x256x64.Idx → Elt F .bf16) (X : S2x256x512.Idx → Elt F .bf16) (c : Dev nD) : sProp 𝕄 :=
  iprop((kM.view.loc (c : Thread nD τ) ↦{fullShare} K) ∗ (vM.view.loc (c : Thread nD τ) ↦{fullShare} V) ∗ (xbM.view.loc (c : Thread nD τ) ↦{fullShare} X))

variable (K V : S16x2x256x64.Idx → Elt F .bf16) (X : S2x256x512.Idx → Elt F .bf16)

theorem part7 (c : Dev nD) (v184 : IVec S256x256 1) (v195 : BitVec 32) (v203 : FVec F S256x256 .bf16) (Q : (Σ' (v224 : FVec F S256x64 .bf16) (v235 : FVec F S256x256 .bf16) (v238 : FVec F S256x1 .f32), Vec F S1x1x256x64 .bf16) → sProp 𝕄) :
    iprop(KVX K V X c ∗ (KVX K V X c -∗ Q ⟨k0_pay9 v184 v203 (ldK K c 0 0 0) (ldV V c 0 0 0), k0_pay10 v184 v203 (ldK K c 0 0 1), k0_pay11 v184 v203 (ldK K c 0 0 1), (ldV V c 0 0 1)⟩))
      ⊢ wp frame (wpE (defs₀ (F := F)) 𝒱₀ (c : Thread nD τ) none) Set.univ (k0_part7 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v195 v203) Q := by
  rw [k0_part7_eq_skeleton]; unfold k0_part7_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay9 v184 v203 (ldK K c 0 0 0) (ldV V c 0 0 0), k0_pay10 v184 v203 (ldK K c 0 0 1), k0_pay11 v184 v203 (ldK K c 0 0 1), (ldV V c 0 0 1)⟩) (by rfl))
  iapply HQ
  isplitl [HK]; · iexact HK
  isplitl [HV]; · iexact HV
  iexact HX

theorem part8 (c : Dev nD) (v184 : IVec S256x256 1) (v195 : BitVec 32) (v203 : FVec F S256x256 .bf16) (v235 : FVec F S256x256 .bf16) (v238 : FVec F S256x1 .f32) (v240 : Vec F S1x1x256x64 .bf16) (Q : (Σ' (v245 : FVec F S256x64 .bf16) (v266 : FVec F S256x64 .bf16) (v268 : BitVec 32) (v277 : FVec F S256x256 .bf16), FVec F S256 .f32) → sProp 𝕄) :
    iprop(KVX K V X c ∗ (KVX K V X c -∗ Q ⟨k0_pay12 v235 v238 v240, k0_pay13 v184 v203 (ldK K c 0 0 2) (ldV V c 0 0 2), (Scalar.addi (Scalar.muli v195 4#32) 3#32), k0_pay14 v184 v203 (ldK K c 0 0 3), k0_pay15 v184 v203 (ldK K c 0 0 3)⟩))
      ⊢ wp frame (wpE (defs₀ (F := F)) 𝒱₀ (c : Thread nD τ) none) Set.univ (k0_part8 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v195 v203 v235 v238 v240) Q := by
  rw [k0_part8_eq_skeleton]; unfold k0_part8_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_done c (a := ⟨k0_pay12 v235 v238 v240, k0_pay13 v184 v203 (ldK K c 0 0 2) (ldV V c 0 0 2), (Scalar.addi (Scalar.muli v195 4#32) 3#32), k0_pay14 v184 v203 (ldK K c 0 0 3), k0_pay15 v184 v203 (ldK K c 0 0 3)⟩) (by rfl))
  iapply HQ
  isplitl [HK]; · iexact HK
  isplitl [HV]; · iexact HV
  iexact HX

theorem part9 (c : Dev nD) (v184 : IVec S256x256 1) (v195 : BitVec 32) (v197 : FVec F S512x256 .bf16) (v268 : BitVec 32) (v277 : FVec F S256x256 .bf16) (v279 : FVec F S256 .f32) (Q : (Σ' (v287 : FVec F S256x64 .bf16) (v293 : FVec F S256x256 .bf16) (v314 : FVec F S256x64 .bf16), BitVec 32) → sProp 𝕄) :
    iprop(KVX K V X c ∗ (KVX K V X c -∗ Q ⟨k0_pay16 v277 v279 (ldV V c 0 0 3), k0_pay17 v197 (entry X 1), k0_pay18 v184 v197 (entry X 1) (ldK K c 0 1 0) (ldV V c 0 1 0), (Scalar.addi (Scalar.muli v195 4#32) 1#32)⟩))
      ⊢ wp frame (wpE (defs₀ (F := F)) 𝒱₀ (c : Thread nD τ) none) Set.univ (k0_part9 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v195 v197 v268 v277 v279) Q := by
  rw [k0_part9_eq_skeleton]; unfold k0_part9_skel KVX
  iintro ⟨⟨HK, HV, HX⟩, HQ⟩
  iapply (wp_load 𝒱₀ (c : Thread nD τ) none Set.univ (m := vM) (Finset.subset_univ _)) $$ HV; iintro HV
  iapply (load_x1 c) $$ HX; iintro HX
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay16 v277 v279 (ldV V c 0 0 3), k0_pay17 v197 (entry X 1), k0_pay18 v184 v197 (entry X 1) (ldK K c 0 1 0) (ldV V c 0 1 0), (Scalar.addi (Scalar.muli v195 4#32) 1#32)⟩) (by rfl))
  iapply HQ
  isplitl [HK]; · iexact HK
  isplitl [HV]; · iexact HV
  iexact HX

theorem part10 (c : Dev nD) (v184 : IVec S256x256 1) (v195 : BitVec 32) (v293 : FVec F S256x256 .bf16) (v316 : BitVec 32) (Q : (Σ' (v335 : FVec F S256x64 .bf16) (v353 : FVec F S256x64 .f32), FVec F S256x64 .f32) → sProp 𝕄) :
    iprop(KVX K V X c ∗ (KVX K V X c -∗ Q ⟨k0_pay19 v184 v293 (ldK K c 0 1 1) (ldV V c 0 1 1), k0_pay21 v184 v293 (ldK K c 0 1 2) (ldV V c 0 1 2), k0_pay22 v184 v293 (ldK K c 0 1 2)⟩))
      ⊢ wp frame (wpE (defs₀ (F := F)) 𝒱₀ (c : Thread nD τ) none) Set.univ (k0_part10 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v195 v293 v316) Q := by
  rw [k0_part10_eq_skeleton]; unfold k0_part10_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay19 v184 v293 (ldK K c 0 1 1) (ldV V c 0 1 1), k0_pay21 v184 v293 (ldK K c 0 1 2) (ldV V c 0 1 2), k0_pay22 v184 v293 (ldK K c 0 1 2)⟩) (by rfl))
  iapply HQ
  isplitl [HK]; · iexact HK
  isplitl [HV]; · iexact HV
  iexact HX

theorem part14 (c : Dev nD) (v184 : IVec S256x256 1) (v418 : BitVec 32) (v435 : FVec F S256x256 .bf16) (v458 : BitVec 32) (v459 : FVec F S256x64 .bf16) (v462 : FVec F S256x64 .bf16) (Q : (Σ' (v477 : FVec F S256x64 .bf16) (v498 : FVec F S256x64 .bf16) (v500 : BitVec 32), FVec F S256x64 .bf16) → sProp 𝕄) :
    iprop(KVX K V X c ∗ (KVX K V X c -∗ Q ⟨k0_pay33 v184 v459 v462 (ldV V c 1 0 1), k0_pay34 v184 v435 (ldK K c 1 0 2) (ldV V c 1 0 2), (Scalar.addi (Scalar.muli v418 4#32) 3#32), k0_pay35 v435⟩))
      ⊢ wp frame (wpE (defs₀ (F := F)) 𝒱₀ (c : Thread nD τ) none) Set.univ (k0_part14 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v418 v435 v458 v459 v462) Q := by
  rw [k0_part14_eq_skeleton]; unfold k0_part14_skel KVX
  iintro ⟨⟨HK, HV, HX⟩, HQ⟩
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay33 v184 v459 v462 (ldV V c 1 0 1), k0_pay34 v184 v435 (ldK K c 1 0 2) (ldV V c 1 0 2), (Scalar.addi (Scalar.muli v418 4#32) 3#32), k0_pay35 v435⟩) (by rfl))
  iapply HQ
  isplitl [HK]; · iexact HK
  isplitl [HV]; · iexact HV
  iexact HX

theorem part15 (c : Dev nD) (v184 : IVec S256x256 1) (v418 : BitVec 32) (v429 : FVec F S512x256 .bf16) (v500 : BitVec 32) (v501 : FVec F S256x64 .bf16) (Q : (Σ' (v519 : FVec F S256x64 .bf16) (v525 : FVec F S256x256 .bf16) (v527 : BitVec 32) (v536 : FVec F S256x256 .bf16), FVec F S256 .f32) → sProp 𝕄) :
    iprop(KVX K V X c ∗ (KVX K V X c -∗ Q ⟨k0_pay36 v184 v501 (ldK K c 1 0 3) (ldV V c 1 0 3), k0_pay37 v429 (entry X 1), (Scalar.addi (Scalar.muli v418 4#32) 0#32), k0_pay38 v184 v429 (entry X 1) (ldK K c 1 1 0), k0_pay39 v184 v429 (entry X 1) (ldK K c 1 1 0)⟩))
      ⊢ wp frame (wpE (defs₀ (F := F)) 𝒱₀ (c : Thread nD τ) none) Set.univ (k0_part15 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v418 v429 v500 v501) Q := by
  rw [k0_part15_eq_skeleton]; unfold k0_part15_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (load_x1 c) $$ HX; iintro HX
  iapply (wp_load 𝒱₀ (c : Thread nD τ) none Set.univ (m := kM) (Finset.subset_univ _)) $$ HK; iintro HK
  iapply (wp_done c (a := ⟨k0_pay36 v184 v501 (ldK K c 1 0 3) (ldV V c 1 0 3), k0_pay37 v429 (entry X 1), (Scalar.addi (Scalar.muli v418 4#32) 0#32), k0_pay38 v184 v429 (entry X 1) (ldK K c 1 1 0), k0_pay39 v184 v429 (entry X 1) (ldK K c 1 1 0)⟩) (by rfl))
  iapply HQ
  isplitl [HK]; · iexact HK
  isplitl [HV]; · iexact HV
  iexact HX

theorem part16 (c : Dev nD) (v184 : IVec S256x256 1) (v418 : BitVec 32) (v525 : FVec F S256x256 .bf16) (v527 : BitVec 32) (v536 : FVec F S256x256 .bf16) (v538 : FVec F S256 .f32) (Q : (Σ' (v546 : FVec F S256x64 .bf16) (v567 : FVec F S256x64 .bf16) (v569 : BitVec 32) (v574 : FVec F S256x256 .f32), FVec F S256x256 .f32) → sProp 𝕄) :
    iprop(KVX K V X c ∗ (KVX K V X c -∗ Q ⟨k0_pay40 v536 v538 (ldV V c 1 1 0), k0_pay41 v184 v525 (ldK K c 1 1 1) (ldV V c 1 1 1), (Scalar.addi (Scalar.muli v418 4#32) 2#32), k0_pay42 v525 (ldK K c 1 1 2), k0_pay43 (F := F)⟩))
      ⊢ wp frame (wpE (defs₀ (F := F)) 𝒱₀ (c : Thread nD τ) none) Set.univ (k0_part16 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v418 v525 v527 v536 v538) Q := by
  rw [k0_part16_eq_skeleton]; unfold k0_part16_skel KVX
  iintro ⟨⟨HK, HV, HX⟩, HQ⟩
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_done c (a := ⟨k0_pay40 v536 v538 (ldV V c 1 1 0), k0_pay41 v184 v525 (ldK K c 1 1 1) (ldV V c 1 1 1), (Scalar.addi (Scalar.muli v418 4#32) 2#32), k0_pay42 v525 (ldK K c 1 1 2), k0_pay43 (F := F)⟩) (by rfl))
  iapply HQ
  isplitl [HK]; · iexact HK
  isplitl [HV]; · iexact HV
  iexact HX

theorem part17 (c : Dev nD) (v184 : IVec S256x256 1) (v418 : BitVec 32) (v525 : FVec F S256x256 .bf16) (v569 : BitVec 32) (v574 : FVec F S256x256 .f32) (v575 : FVec F S256x256 .f32) (Q : (Σ' (v588 : FVec F S256x64 .bf16), FVec F S256x64 .bf16) → sProp 𝕄) :
    iprop(KVX K V X c ∗ (KVX K V X c -∗ Q ⟨k0_pay44 v184 v574 v575 (ldV V c 1 1 2), k0_pay45 v184 v525 (ldK K c 1 1 3) (ldV V c 1 1 3)⟩))
      ⊢ wp frame (wpE (defs₀ (F := F)) 𝒱₀ (c : Thread nD τ) none) Set.univ (k0_part17 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v418 v525 v569 v574 v575) Q := by
  rw [k0_part17_eq_skeleton]; unfold k0_part17_skel KVX
  iintro ⟨⟨HK, HV, HX⟩, HQ⟩
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay44 v184 v574 v575 (ldV V c 1 1 2), k0_pay45 v184 v525 (ldK K c 1 1 3) (ldV V c 1 1 3)⟩) (by rfl))
  iapply HQ
  isplitl [HK]; · iexact HK
  isplitl [HV]; · iexact HV
  iexact HX

theorem part20 (c : Dev nD) (v184 : IVec S256x256 1) (v665 : BitVec 32) (v679 : FVec F S256x256 .f32) (Q : (Σ' (v682 : FVec F S256x256 .bf16) (v703 : FVec F S256x64 .bf16) (v714 : FVec F S256x256 .bf16), FVec F S256x1 .f32) → sProp 𝕄) :
    iprop(KVX K V X c ∗ (KVX K V X c -∗ Q ⟨k0_pay52 v679, k0_pay53 v184 v679 (ldK K c 2 0 0) (ldV V c 2 0 0), k0_pay54 v184 v679 (ldK K c 2 0 1), k0_pay55 v184 v679 (ldK K c 2 0 1)⟩))
      ⊢ wp frame (wpE (defs₀ (F := F)) 𝒱₀ (c : Thread nD τ) none) Set.univ (k0_part20 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v665 v679) Q := by
  rw [k0_part20_eq_skeleton]; unfold k0_part20_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_done c (a := ⟨k0_pay52 v679, k0_pay53 v184 v679 (ldK K c 2 0 0) (ldV V c 2 0 0), k0_pay54 v184 v679 (ldK K c 2 0 1), k0_pay55 v184 v679 (ldK K c 2 0 1)⟩) (by rfl))
  iapply HQ
  isplitl [HK]; · iexact HK
  isplitl [HV]; · iexact HV
  iexact HX

theorem part21 (c : Dev nD) (v184 : IVec S256x256 1) (v665 : BitVec 32) (v682 : FVec F S256x256 .bf16) (v714 : FVec F S256x256 .bf16) (v717 : FVec F S256x1 .f32) (Q : (Σ' (v724 : FVec F S256x64 .bf16) (v745 : FVec F S256x64 .bf16) (v747 : BitVec 32), FVec F S256x256 .bf16) → sProp 𝕄) :
    iprop(KVX K V X c ∗ (KVX K V X c -∗ Q ⟨k0_pay56 v714 v717 (ldV V c 2 0 1), k0_pay57 v184 v682 (ldK K c 2 0 2) (ldV V c 2 0 2), (Scalar.addi (Scalar.muli v665 4#32) 3#32), k0_pay58 v184 v682 (ldK K c 2 0 3)⟩))
      ⊢ wp frame (wpE (defs₀ (F := F)) 𝒱₀ (c : Thread nD τ) none) Set.univ (k0_part21 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v665 v682 v714 v717) Q := by
  rw [k0_part21_eq_skeleton]; unfold k0_part21_skel KVX
  iintro ⟨⟨HK, HV, HX⟩, HQ⟩
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_done c (a := ⟨k0_pay56 v714 v717 (ldV V c 2 0 1), k0_pay57 v184 v682 (ldK K c 2 0 2) (ldV V c 2 0 2), (Scalar.addi (Scalar.muli v665 4#32) 3#32), k0_pay58 v184 v682 (ldK K c 2 0 3)⟩) (by rfl))
  iapply HQ
  isplitl [HK]; · iexact HK
  isplitl [HV]; · iexact HV
  iexact HX

theorem part22 (c : Dev nD) (v184 : IVec S256x256 1) (v665 : BitVec 32) (v676 : FVec F S512x256 .bf16) (v747 : BitVec 32) (v755 : FVec F S256x256 .bf16) (Q : (Σ' (v766 : FVec F S256x64 .bf16) (v772 : FVec F S256x256 .bf16), FVec F S256x64 .bf16) → sProp 𝕄) :
    iprop(KVX K V X c ∗ (KVX K V X c -∗ Q ⟨k0_pay59 v755 (ldV V c 2 0 3), k0_pay60 v676 (entry X 1), k0_pay61 v184 v676 (entry X 1) (ldK K c 2 1 0) (ldV V c 2 1 0)⟩))
      ⊢ wp frame (wpE (defs₀ (F := F)) 𝒱₀ (c : Thread nD τ) none) Set.univ (k0_part22 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v665 v676 v747 v755) Q := by
  rw [k0_part22_eq_skeleton]; unfold k0_part22_skel KVX
  iintro ⟨⟨HK, HV, HX⟩, HQ⟩
  iapply (wp_load 𝒱₀ (c : Thread nD τ) none Set.univ (m := vM) (Finset.subset_univ _)) $$ HV; iintro HV
  iapply (load_x1 c) $$ HX; iintro HX
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay59 v755 (ldV V c 2 0 3), k0_pay60 v676 (entry X 1), k0_pay61 v184 v676 (entry X 1) (ldK K c 2 1 0) (ldV V c 2 1 0)⟩) (by rfl))
  iapply HQ
  isplitl [HK]; · iexact HK
  isplitl [HV]; · iexact HV
  iexact HX

theorem part23 (c : Dev nD) (v184 : IVec S256x256 1) (v665 : BitVec 32) (v772 : FVec F S256x256 .bf16) (Q : (Σ' (v814 : FVec F S256x64 .bf16) (v825 : FVec F S256x256 .bf16) (v828 : FVec F S256x1 .f32), Vec F S1x1x256x64 .bf16) → sProp 𝕄) :
    iprop(KVX K V X c ∗ (KVX K V X c -∗ Q ⟨k0_pay62 v184 v772 (ldK K c 2 1 1) (ldV V c 2 1 1), k0_pay63 v184 v772 (ldK K c 2 1 2), k0_pay64 v184 v772 (ldK K c 2 1 2), (ldV V c 2 1 2)⟩))
      ⊢ wp frame (wpE (defs₀ (F := F)) 𝒱₀ (c : Thread nD τ) none) Set.univ (k0_part23 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v665 v772) Q := by
  rw [k0_part23_eq_skeleton]; unfold k0_part23_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay62 v184 v772 (ldK K c 2 1 1) (ldV V c 2 1 1), k0_pay63 v184 v772 (ldK K c 2 1 2), k0_pay64 v184 v772 (ldK K c 2 1 2), (ldV V c 2 1 2)⟩) (by rfl))
  iapply HQ
  isplitl [HK]; · iexact HK
  isplitl [HV]; · iexact HV
  iexact HX

theorem part27 (c : Dev nD) (v184 : IVec S256x256 1) (v912 : BitVec 32) (v929 : FVec F S256x256 .bf16) (v931 : BitVec 32) (v932 : FVec F S256x64 .bf16) (Q : (Σ' (v950 : FVec F S256x64 .bf16) (v971 : FVec F S256x64 .bf16), BitVec 32) → sProp 𝕄) :
    iprop(KVX K V X c ∗ (KVX K V X c -∗ Q ⟨k0_pay73 v184 v932 (ldK K c 3 0 0) (ldV V c 3 0 0), k0_pay74 v184 v929 (ldK K c 3 0 1) (ldV V c 3 0 1), (Scalar.muli v912 4#32)⟩))
      ⊢ wp frame (wpE (defs₀ (F := F)) 𝒱₀ (c : Thread nD τ) none) Set.univ (k0_part27 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v912 v929 v931 v932) Q := by
  rw [k0_part27_eq_skeleton]; unfold k0_part27_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay73 v184 v932 (ldK K c 3 0 0) (ldV V c 3 0 0), k0_pay74 v184 v929 (ldK K c 3 0 1) (ldV V c 3 0 1), (Scalar.muli v912 4#32)⟩) (by rfl))
  iapply HQ
  isplitl [HK]; · iexact HK
  isplitl [HV]; · iexact HV
  iexact HX

theorem part28 (c : Dev nD) (v184 : IVec S256x256 1) (v912 : BitVec 32) (v929 : FVec F S256x256 .bf16) (v972 : BitVec 32) (Q : (Σ' (v992 : FVec F S256x64 .bf16) (v1003 : FVec F S256x256 .bf16) (v1006 : FVec F S256x1 .f32) (v1009 : FVec F S256x64 .bf16), FVec F S256x64 .f32) → sProp 𝕄) :
    iprop(KVX K V X c ∗ (KVX K V X c -∗ Q ⟨k0_pay75 v184 v929 (ldK K c 3 0 2) (ldV V c 3 0 2), k0_pay76 v184 v929 (ldK K c 3 0 3), k0_pay77 v184 v929 (ldK K c 3 0 3), k0_pay78 (ldV V c 3 0 3), (constant S256x64 .f32 0x00000000#32)⟩))
      ⊢ wp frame (wpE (defs₀ (F := F)) 𝒱₀ (c : Thread nD τ) none) Set.univ (k0_part28 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v912 v929 v972) Q := by
  rw [k0_part28_eq_skeleton]; unfold k0_part28_skel KVX
  iintro ⟨⟨HK, HV, HX⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay75 v184 v929 (ldK K c 3 0 2) (ldV V c 3 0 2), k0_pay76 v184 v929 (ldK K c 3 0 3), k0_pay77 v184 v929 (ldK K c 3 0 3), k0_pay78 (ldV V c 3 0 3), (constant S256x64 .f32 0x00000000#32)⟩) (by rfl))
  iapply HQ
  isplitl [HK]; · iexact HK
  isplitl [HV]; · iexact HV
  iexact HX

theorem part29 (c : Dev nD) (v184 : IVec S256x256 1) (v912 : BitVec 32) (v923 : FVec F S512x256 .bf16) (v1003 : FVec F S256x256 .bf16) (v1006 : FVec F S256x1 .f32) (v1009 : FVec F S256x64 .bf16) (cst_635 : FVec F S256x64 .f32) (Q : (Σ' (v1013 : FVec F S256x64 .bf16) (v1019 : FVec F S256x256 .bf16) (v1040 : FVec F S256x64 .bf16) (v1042 : BitVec 32) (v1043 : FVec F S256x64 .bf16) (v1046 : FVec F S256x64 .bf16), FVec F S256x256 .f32) → sProp 𝕄) :
    iprop(KVX K V X c ∗ (KVX K V X c -∗ Q ⟨k0_pay79 v1003 v1006 v1009 cst_635, k0_pay80 v923 (entry X 1), k0_pay81 v184 v923 (entry X 1) (ldK K c 3 1 0) (ldV V c 3 1 0), (Scalar.addi (Scalar.muli v912 4#32) 1#32), k0_pay82 v923 (entry X 1), k0_pay83 (ldK K c 3 1 1), (constant S256x256 .f32 0x00000000#32)⟩))
      ⊢ wp frame (wpE (defs₀ (F := F)) 𝒱₀ (c : Thread nD τ) none) Set.univ (k0_part29 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v912 v923 v1003 v1006 v1009 cst_635) Q := by
  rw [k0_part29_eq_skeleton]; unfold k0_part29_skel KVX
  iintro ⟨⟨HK, HV, HX⟩, HQ⟩
  iapply (load_x1 c) $$ HX; iintro HX
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_done c (a := ⟨k0_pay79 v1003 v1006 v1009 cst_635, k0_pay80 v923 (entry X 1), k0_pay81 v184 v923 (entry X 1) (ldK K c 3 1 0) (ldV V c 3 1 0), (Scalar.addi (Scalar.muli v912 4#32) 1#32), k0_pay82 v923 (entry X 1), k0_pay83 (ldK K c 3 1 1), (constant S256x256 .f32 0x00000000#32)⟩) (by rfl))
  iapply HQ
  isplitl [HK]; · iexact HK
  isplitl [HV]; · iexact HV
  iexact HX

theorem part30 (c : Dev nD) (v184 : IVec S256x256 1) (v912 : BitVec 32) (v1019 : FVec F S256x256 .bf16) (v1042 : BitVec 32) (v1043 : FVec F S256x64 .bf16) (v1046 : FVec F S256x64 .bf16) (cst_658 : FVec F S256x256 .f32) (Q : (Σ' (v1061 : FVec F S256x64 .bf16) (v1082 : FVec F S256x64 .bf16) (v1084 : BitVec 32), FVec F S256x64 .bf16) → sProp 𝕄) :
    iprop(KVX K V X c ∗ (KVX K V X c -∗ Q ⟨k0_pay84 v184 v1043 v1046 cst_658 (ldV V c 3 1 1), k0_pay85 v184 v1019 (ldK K c 3 1 2) (ldV V c 3 1 2), (Scalar.addi (Scalar.muli v912 4#32) 3#32), k0_pay86 v1019⟩))
      ⊢ wp frame (wpE (defs₀ (F := F)) 𝒱₀ (c : Thread nD τ) none) Set.univ (k0_part30 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v184 v912 v1019 v1042 v1043 v1046 cst_658) Q := by
  rw [k0_part30_eq_skeleton]; unfold k0_part30_skel KVX
  iintro ⟨⟨HK, HV, HX⟩, HQ⟩
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_done c (a := ⟨k0_pay84 v184 v1043 v1046 cst_658 (ldV V c 3 1 1), k0_pay85 v184 v1019 (ldK K c 3 1 2) (ldV V c 3 1 2), (Scalar.addi (Scalar.muli v912 4#32) 3#32), k0_pay86 v1019⟩) (by rfl))
  iapply HQ
  isplitl [HK]; · iexact HK
  isplitl [HV]; · iexact HV
  iexact HX

end Cert.BlockAttn
-- ==== Proof.Talk.lean ====
/-
One rule for each kind of step of the protocol: a signal to another device's barrier, the wait on the own barrier, a transfer
of either block, the wait for a block to arrive and the wait for a lent share to come back. What never changes during the
run, the invariants of the cells and that each of them starts at round 0, is one record that every rule reads.
-/
module

public import proofs.«01_k».proof.Proof.Steps

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The seventeen cells of a device -/

/-- Cell `0` is the barrier, `1 … 8` the send semaphores, `9 … 16` the receive semaphores. -/
def semAt (k : Fin 17) : SemLoc sig :=
  if k = 0 then .reg barS else .dma (⟨5 + k.val, by have := k.isLt; show _ < 22; omega⟩ : Fin 22)
def kS (t : Fin 2) (o : Fin 4) : Fin 17 := ⟨1 + 4 * t.val + o.val, by have := t.isLt; have := o.isLt; omega⟩
def kR (t : Fin 2) (o : Fin 4) : Fin 17 := ⟨9 + 4 * t.val + o.val, by have := t.isLt; have := o.isLt; omega⟩
/-- Cell `k` of device `c`. -/
def cell (p : Dev nD × Fin 17) : GSem nD τ sig := ((p.1 : Thread nD τ), semAt p.2)

theorem cell_bar (c : Dev nD) : cell (c, 0) = barCell c := rfl
theorem semAt_S (t : Fin 2) (o : Fin 4) : semAt (kS t o) = .dma (sS t o) := by fin_cases t <;> fin_cases o <;> rfl
theorem semAt_R (t : Fin 2) (o : Fin 4) : semAt (kR t o) = .dma (rS t o) := by fin_cases t <;> fin_cases o <;> rfl
theorem cell_S (c : Dev nD) (t : Fin 2) (o : Fin 4) : cell (c, kS t o) = sendCell c t o := by unfold cell; rw [semAt_S]
theorem cell_R (c : Dev nD) (t : Fin 2) (o : Fin 4) : cell (c, kR t o) = recvCell c t o := by unfold cell; rw [semAt_R]

section Talk

variable (WQ : Dev nD → (cc0_stg1_0 : Ref sig .tc).ty.Contents (Elt F)) (WO : Dev nD → (cc0_stg4_0 : Ref sig .tc).ty.Contents (Elt F))
variable (K : Dev nD × Fin 17 → ℕ)

/-- What never changes: every cell's invariant, and that the barrier cells start at round 0. -/
def records : sProp 𝕄 :=
  iprop((bigSep Finset.univ fun p : Dev nD × Fin 17 => cellInv ER (rd WQ WO) (K p) (cell p))
    ∗ bigSep Finset.univ fun c : Dev nD => reached ER (barCell c) 0)

instance records_persistent : BI.Persistent (records (F := F) WQ WO K) := by unfold records; infer_instance

theorem rec_at (p : Dev nD × Fin 17) : records (F := F) WQ WO K ⊢ cellInv ER (rd WQ WO) (K p) (cell p) := by
  have h : (bigSep Finset.univ fun p : Dev nD × Fin 17 => (cellInv ER (rd WQ WO) (K p) (cell p) : sProp 𝕄))
      ⊢ cellInv ER (rd WQ WO) (K p) (cell p) := bigSep_elim (Finset.mem_univ p)
  unfold records
  iintro ⟨#H, -⟩
  iapply h; iexact H
theorem rec_bar (c : Dev nD) : records (F := F) WQ WO K ⊢ iprop(cellInv ER (rd WQ WO) (K (c, 0)) (barCell c) ∗ reached ER (barCell c) 0) := by
  have h : (bigSep Finset.univ fun c : Dev nD => (reached ER (barCell c) 0 : sProp 𝕄)) ⊢ reached ER (barCell c) 0 :=
    bigSep_elim (Finset.mem_univ c)
  iintro #HR
  isplitr
  · iapply (rec_at WQ WO K (c, 0)); iexact HR
  · unfold records
    icases HR with ⟨-, #H⟩
    iapply h; iexact H
theorem rec_S (c : Dev nD) (t : Fin 2) (o : Fin 4) : records (F := F) WQ WO K ⊢ cellInv ER (rd WQ WO) (K (c, kS t o)) (sendCell c t o) := by
  have h := rec_at (F := F) WQ WO K (c, kS t o); rw [cell_S] at h; exact h
theorem rec_R (c : Dev nD) (t : Fin 2) (o : Fin 4) : records (F := F) WQ WO K ⊢ cellInv ER (rd WQ WO) (K (c, kR t o)) (recvCell c t o) := by
  have h := rec_at (F := F) WQ WO K (c, kR t o); rw [cell_R] at h; exact h

/-! ## The steps -/

/-- A signal to the barrier at distance `o` hands over the two slots that device is going to fill. -/
theorem signal_step (c n : Dev nD) (o : Fin 4) (ho : o = 1 ∨ o = 2 ∨ o = 3) (hn : n = fwd c o)
    {α : Type} {Q : α → sProp 𝕄} {k : PUnit → Prog (TpuEff nD τ sig (Elt F) Λ₀ .tc) α}
    (O O' : CellTallies nD τ sig Unit) (hO : O' = O + tallyAt (barCell (fwd c o)) () 1) (W : Waits sig Unit) :
    iprop(records WQ WO K ∗ owes (c : Thread nD τ) O' W ∗ dutyTok ER (barCell (fwd c o)) 0 o ∗ slotQAny (F := F) c (fwd c o) ∗ slotOAny (F := F) c (fwd c o))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (semSignalWord n barS 1#32 >>= k) Q) := by
  subst hn
  simp only [semSignalWord, Prog.lift, Prog.bind_op, Prog.bind_ret]
  iintro ⟨#HR, HO, Ht, Hq, Ho⟩
  ihave ⟨#HI, #Hr⟩ := (rec_bar WQ WO K (fwd c o)) $$ HR
  iintro Hk
  iapply (Rounds.wp_signal 𝒱₀ ER (rd WQ WO) (c : Thread nD τ) none (dst := (fwd c o : Thread nD τ)) (sem := barS) (r := 0) (κ := K (fwd c o, 0))
      (d := o) (by rw [duties_bar]; rcases ho with h | h | h <;> subst h <;> decide) ((amount_bar WQ WO (fwd c o) o).trans (by decide)) () O hO)
    $$ [HO Ht Hq Ho]
  · isplitr; · iexact HI
    isplitl [HO]; · iexact HO
    isplitl [Ht]; · iexact Ht
    isplitl [Hq Ho]
    · rw [payload_bar]; unfold barPay; rw [bwd_fwd]
      isplitl [Hq]; · iexact Hq
      iexact Ho
    · iexact Hr
  iexact Hk

/-- The wait for three units on the own barrier brings the slots `c` of the three other devices. -/
theorem barrier_step (c : Dev nD)
    {α : Type} {Q : α → sProp 𝕄} {k : PUnit → Prog (TpuEff nD τ sig (Elt F) Λ₀ .tc) α} (W : Waits sig Unit) :
    iprop(records WQ WO K ∗ levAts L lv ∗ cred (tallyAt (barCell c) () 3) ∗ owes (c : Thread nD τ) (OR c) W ∗ atPos ER (barCell c) 0 ∅ 0)
      ⊢ iprop(((owes (c : Thread nD τ) (OR c) (insert (SemLoc.reg barS, ()) W) ∗ atPos ER (barCell c) (0 + 1) ∅ 0
              ∗ (slotQAny (F := F) (fwd c 1) c ∗ slotOAny (F := F) (fwd c 1) c) ∗ (slotQAny (F := F) (fwd c 2) c ∗ slotOAny (F := F) (fwd c 2) c)
              ∗ (slotQAny (F := F) (fwd c 3) c ∗ slotOAny (F := F) (fwd c 3) c))
            -∗ wp frame (wpE (defs₀ (F := F)) 𝒱₀ (c : Thread nD τ) none) Set.univ (k ⟨⟩) Q)
          -∗ wp frame (wpE (defs₀ (F := F)) 𝒱₀ (c : Thread nD τ) none) Set.univ (semWaitWord barS 3#32 >>= k) Q) := by
  simp only [semWaitWord, Prog.lift, Prog.bind_op, Prog.bind_ret]
  iintro ⟨#HR, #Hlev, Hc, HO, Hat⟩
  ihave ⟨#HI, -⟩ := (rec_bar WQ WO K c) $$ HR
  iintro Hk
  iapply (Rounds.wp_wait_rest_token 𝒱₀ ER (rd WQ WO) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar WQ WO c)) $$ Hpay
  unfold barPay
  rw [show bwd c 1 = fwd c 3 by revert c; decide, show bwd c 2 = fwd c 2 by revert c; decide, show bwd c 3 = fwd c 1 by revert c; decide]
  icases Hp with ⟨⟨Hq3, Ho3⟩, ⟨Hq2, Ho2⟩, ⟨Hq1, Ho1⟩⟩
  iapply Hk
  isplitl [HO]; · iexact HO
  isplitl [Hat]; · iexact Hat
  isplitl [Hq1 Ho1]; · isplitl [Hq1]; · iexact Hq1
                       iexact Ho1
  isplitl [Hq2 Ho2]; · isplitl [Hq2]; · iexact Hq2
                       iexact Ho2
  isplitl [Hq3]; · iexact Hq3
  iexact Ho3

/-- A transfer of the `Wq` block to the device at distance `o`. -/
theorem sendQ_step (c n : Dev nD) (o : Fin 4) (ho : o ≠ 0) (hn : n = fwd c o) {dst : Memref sig .tc .vmem S512x256 .bf16} (hd : dst = slotQ c)
    {s r : DmaSem sig} (hs : s = sS 0 o) (hr : r = rS 0 o)
    {hsc : dst.view.ref.isScScratch = false} {hsrc : wqM.view.WordExact} {hdst : dst.view.WordExact}
    {hsem : DmaTarget.Typed .vmem (.dma r) (.remote (Dev.tc n : Thread nD τ) dst (.dma s) hsc)}
    {α : Type} {Q : α → sProp 𝕄} {k : PUnit → Prog (TpuEff nD τ sig (Elt F) Λ₀ .tc) α}
    (O O' : CellTallies nD τ sig Unit) (hO : O' = O + tallyAt (recvCell (fwd c o) 0 o) () N) (W : Waits sig Unit) :
    iprop(records WQ WO K ∗ sendPay WQ WO c 0 o ∗ slotQAny (F := F) (fwd c o) c ∗ owes (c : Thread nD τ) O' W
        ∗ dutyTok ER (sendCell c 0 o) 0 0 ∗ dutyTok ER (recvCell (fwd c o) 0 o) 0 0 ∗ reached ER (sendCell c 0 o) 0)
      ⊢ iprop(((cred (tallyAt (sendCell c 0 o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wqM (.remote (Dev.tc n : Thread nD τ) dst (.dma s) hsc) (.dma r) hsrc hdst hsem) k) Q) := by
  subst hn hd hs hr
  unfold slotQAny sendPay
  rw [gap_fwd]
  iintro ⟨#HR, Hsrc, ⟨⟨%fd, Hdst⟩, #Hrr⟩, HO, Hts, Htr, #Hrs⟩
  ihave #HIs := (rec_S WQ WO K c 0 o) $$ HR
  ihave #HIr := (rec_R WQ WO K (fwd c o) 0 o) $$ HR
  iapply (Rounds.wp_send_pointsTo 𝒱₀ ER (rd WQ WO) (c : Thread nD τ) none (c' := (fwd c o : Thread nD τ)) (κ₁ := K (c, kS 0 o)) (κ₂ := K (fwd c o, kR 0 o))
    (q := lent o) (fs := WQ c) (r₁ := 0) (r₂ := 0) (d₁ := 0) (d₂ := 0) (fd := fd)
    (by rw [duties_send _ _ _ _ _ ho]; exact Finset.mem_singleton_self _) (by rw [duties_recv _ _ _ _ _ ho]; exact Finset.mem_singleton_self _)
    () () N rfl (amount_send WQ WO c 0 o 0) (amount_recv WQ WO (fwd c o) 0 o 0) O hO (W := W)
    (by rw [payload_send]; exact BI.Entails.refl _)
    (by rw [payload_recv]; unfold recvPay; dsimp only; rw [bwd_fwd]; refine .trans (owns_intro _ _ _ _) ?_; rw [View.read_write_univ, View.read_whole])) $$ [Hsrc Hdst HO Hts Htr]
  isplitr; · iexact HIs
  isplitr; · iexact HIr
  isplitl [Hsrc]; · iexact Hsrc
  isplitl [Hdst]; · iexact Hdst
  isplitl [HO]; · iexact HO
  isplitl [Hts]; · iexact Hts
  isplitr; · iexact Hrs
  isplitl [Htr]; · iexact Htr
  iexact Hrr

/-- A transfer of the `Wo` block to the device at distance `o`. -/
theorem sendO_step (c n : Dev nD) (o : Fin 4) (ho : o ≠ 0) (hn : n = fwd c o) {dst : Memref sig .tc .vmem S256x512 .bf16} (hd : dst = slotO c)
    {s r : DmaSem sig} (hs : s = sS 1 o) (hr : r = rS 1 o)
    {hsc : dst.view.ref.isScScratch = false} {hsrc : woM.view.WordExact} {hdst : dst.view.WordExact}
    {hsem : DmaTarget.Typed .vmem (.dma r) (.remote (Dev.tc n : Thread nD τ) dst (.dma s) hsc)}
    {α : Type} {Q : α → sProp 𝕄} {k : PUnit → Prog (TpuEff nD τ sig (Elt F) Λ₀ .tc) α}
    (O O' : CellTallies nD τ sig Unit) (hO : O' = O + tallyAt (recvCell (fwd c o) 1 o) () N) (W : Waits sig Unit) :
    iprop(records WQ WO K ∗ sendPay WQ WO c 1 o ∗ slotOAny (F := F) (fwd c o) c ∗ owes (c : Thread nD τ) O' W
        ∗ dutyTok ER (sendCell c 1 o) 0 0 ∗ dutyTok ER (recvCell (fwd c o) 1 o) 0 0 ∗ reached ER (sendCell c 1 o) 0)
      ⊢ iprop(((cred (tallyAt (sendCell c 1 o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma woM (.remote (Dev.tc n : Thread nD τ) dst (.dma s) hsc) (.dma r) hsrc hdst hsem) k) Q) := by
  subst hn hd hs hr
  unfold slotOAny sendPay
  rw [gap_fwd]
  iintro ⟨#HR, Hsrc, ⟨⟨%fd, Hdst⟩, #Hrr⟩, HO, Hts, Htr, #Hrs⟩
  ihave #HIs := (rec_S WQ WO K c 1 o) $$ HR
  ihave #HIr := (rec_R WQ WO K (fwd c o) 1 o) $$ HR
  iapply (Rounds.wp_send_pointsTo 𝒱₀ ER (rd WQ WO) (c : Thread nD τ) none (c' := (fwd c o : Thread nD τ)) (κ₁ := K (c, kS 1 o)) (κ₂ := K (fwd c o, kR 1 o))
    (q := lent o) (fs := WO c) (r₁ := 0) (r₂ := 0) (d₁ := 0) (d₂ := 0) (fd := fd)
    (by rw [duties_send _ _ _ _ _ ho]; exact Finset.mem_singleton_self _) (by rw [duties_recv _ _ _ _ _ ho]; exact Finset.mem_singleton_self _)
    () () N rfl (amount_send WQ WO c 1 o 0) (amount_recv WQ WO (fwd c o) 1 o 0) O hO (W := W)
    (by rw [payload_send]; exact BI.Entails.refl _)
    (by rw [payload_recv]; unfold recvPay; dsimp only; rw [bwd_fwd]; refine .trans (owns_intro _ _ _ _) ?_; rw [View.read_write_univ, View.read_whole])) $$ [Hsrc Hdst HO Hts Htr]
  isplitr; · iexact HIs
  isplitr; · iexact HIr
  isplitl [Hsrc]; · iexact Hsrc
  isplitl [Hdst]; · iexact Hdst
  isplitl [HO]; · iexact HO
  isplitl [Hts]; · iexact Hts
  isplitr; · iexact Hrs
  isplitl [Htr]; · iexact Htr
  iexact Hrr

/-- The wait for block `t` from the device at distance `o` before `c`. -/
theorem recv_step (c : Dev nD) (t : Fin 2) (o : Fin 4) (ho : o ≠ 0) {r : DmaSem sig} (hr : r = rS t o)
    {sh : Shape} {e : EltTy} {src dst : Memref sig .tc .vmem sh e} (hN : dst.view.dmaCredit = N)
    {hs : src.view.WordExact} {hd : dst.view.WordExact}
    {α : Type} {Q : α → sProp 𝕄} {k : PUnit → Prog (TpuEff nD τ sig (Elt F) Λ₀ .tc) α} (W : Waits sig Unit) :
    iprop(records WQ WO K ∗ cred (tallyAt (recvCell c t o) () N) ∗ owes (c : Thread nD τ) 0 W ∗ atPos ER (recvCell c t o) 0 ∅ 0)
      ⊢ iprop(((owes (c : Thread nD τ) 0 (insert (SemLoc.dma (rS t o), ()) W) ∗ atPos ER (recvCell c t o) (0 + 1) ∅ 0 ∗ recvPay WQ WO c t o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hs hd) k) Q) := by
  subst hr
  iintro ⟨#HR, Hc, HO, Hat⟩
  ihave #HI := (rec_R WQ WO K c t o) $$ HR
  rw [← hN]
  iintro Hk
  iapply (Rounds.wp_wait_rest_token 𝒱₀ ER (rd WQ WO) (c : Thread nD τ) none (κ := K (c, kR t o))
      (wpE_waitDma2_eq 𝒱₀ (c : Thread nD τ) none Set.univ) (Set.mem_univ _) () (O := 0) (W := W) (R := 0) (m := 0) (T := ∅)
      (by rw [Nat.zero_add, expect_recv WQ WO c t o ho, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv WQ WO c t o ho)) $$ Hpay
  iapply Hk
  isplitl [HO]; · iexact HO
  isplitl [Hat]; · iexact Hat
  iexact Hp

/-- The wait for the lent share of block `t` that went to the device at distance `o` after `c`. -/
theorem back_step (c : Dev nD) (t : Fin 2) (o : Fin 4) (ho : o ≠ 0) {r : DmaSem sig} (hr : r = sS t o)
    {sh : Shape} {e : EltTy} {src dst : Memref sig .tc .vmem sh e} (hN : dst.view.dmaCredit = N)
    {hs : src.view.WordExact} {hd : dst.view.WordExact}
    {α : Type} {Q : α → sProp 𝕄} {k : PUnit → Prog (TpuEff nD τ sig (Elt F) Λ₀ .tc) α} (W : Waits sig Unit) :
    iprop(records WQ WO K ∗ cred (tallyAt (sendCell c t o) () N) ∗ owes (c : Thread nD τ) 0 W ∗ atPos ER (sendCell c t o) 0 ∅ 0)
      ⊢ iprop(((owes (c : Thread nD τ) 0 (insert (SemLoc.dma (sS t o), ()) W) ∗ atPos ER (sendCell c t o) (0 + 1) ∅ 0 ∗ sendPay WQ WO c t o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hs hd) k) Q) := by
  subst hr
  iintro ⟨#HR, Hc, HO, Hat⟩
  ihave #HI := (rec_S WQ WO K c t o) $$ HR
  rw [← hN]
  iintro Hk
  iapply (Rounds.wp_wait_rest_token 𝒱₀ ER (rd WQ WO) (c : Thread nD τ) none (κ := K (c, kS t o))
      (wpE_waitDma2_eq 𝒱₀ (c : Thread nD τ) none Set.univ) (Set.mem_univ _) () (O := 0) (W := W) (R := 0) (m := 0) (T := ∅)
      (by rw [Nat.zero_add, expect_send WQ WO c t o ho, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send WQ WO c t o ho)) $$ Hpay
  iapply Hk
  isplitl [HO]; · iexact HO
  isplitl [Hat]; · iexact Hat
  iexact Hp

end Talk

end Cert.BlockAttn
-- ==== Proof.Speak.lean ====
/-
The parts of the body that speak: the three signals, the wait on the barrier and the six transfers.
-/
module

public import proofs.«01_k».proof.Proof.Talk

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (WQ : Dev nD → (cc0_stg1_0 : Ref sig .tc).ty.Contents (Elt F)) (WO : Dev nD → (cc0_stg4_0 : Ref sig .tc).ty.Contents (Elt F))
variable (K : Dev nD × Fin 17 → ℕ)

/-- A promise of the credit of block `t` to the device at distance `o`. -/
abbrev promise (c : Dev nD) (t : Fin 2) (o : Fin 4) : CellTallies nD τ sig Unit := tallyAt (recvCell (fwd c o) t o) () N
/-- A promise of one unit to the barrier at distance `o`. -/
abbrev promiseBar (c : Dev nD) (o : Fin 4) : CellTallies nD τ sig Unit := tallyAt (barCell (fwd c o)) () 1

/-- What a device brings to its signal at distance `o`. -/
def sigRes (c : Dev nD) (o : Fin 4) : sProp 𝕄 :=
  iprop(dutyTok ER (barCell (fwd c o)) 0 o ∗ slotQAny (F := F) c (fwd c o) ∗ slotOAny (F := F) c (fwd c o))
/-- What it brings to a transfer, beside the slot. -/
def sendRes (c : Dev nD) (t : Fin 2) (o : Fin 4) : sProp 𝕄 :=
  iprop(sendPay WQ WO c t o ∗ dutyTok ER (sendCell c t o) 0 0 ∗ dutyTok ER (recvCell (fwd c o) t o) 0 0 ∗ reached ER (sendCell c t o) 0)
/-- The credit a transfer leaves. -/
abbrev sent (c : Dev nD) (t : Fin 2) (o : Fin 4) : sProp 𝕄 := cred (tallyAt (sendCell c t o) () N)

theorem step1 (c : Dev nD) (W : Waits sig Unit) {Q : _ → sProp 𝕄} :
    iprop(records WQ WO K ∗ owes (c : Thread nD τ) (O₀ c) W ∗ sigRes (F := F) c 1 ∗ sigRes (F := F) c 2
        ∗ (owes (c : Thread nD τ) (OR c + promiseBar c 3) W -∗ ∀ v2, ∀ v30, ∀ v31, Q ⟨c, v2, SemArray.scalar (sig.barrier 0 rfl), v30, 4#32, v31⟩))
      ⊢ wp frame (wpE (defs₀ (F := F)) 𝒱₀ (c : Thread nD τ) none) Set.univ (k0_part1 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4) Q := by
  rw [k0_part1_eq_skeleton]; unfold k0_part1_skel sigRes
  simp only [Prog.lift, Prog.bind_op, Prog.bind_ret, Prog.pure_eq_ret, wp_deviceId]
  iintro ⟨#HR, HO, ⟨Ht1, Hq1, Ho1⟩, ⟨Ht2, Hq2, Ho2⟩, HQ⟩
  iapply (signal_step WQ WO K c _ 1 (by decide) (dev1_eq c) (OR c + promiseBar c 3 + promiseBar c 2) (O₀ c) rfl W) $$ [HO Ht1 Hq1 Ho1]
  · isplitr; · iexact HR
    isplitl [HO]; · iexact HO
    isplitl [Ht1]; · iexact Ht1
    isplitl [Hq1]; · iexact Hq1
    iexact Ho1
  iintro HO
  iapply (signal_step WQ WO K c _ 2 (by decide) (dev2_eq c) (OR c + promiseBar c 3) (OR c + promiseBar c 3 + promiseBar c 2) rfl W) $$ [HO Ht2 Hq2 Ho2]
  · isplitr; · iexact HR
    isplitl [HO]; · iexact HO
    isplitl [Ht2]; · iexact Ht2
    isplitl [Hq2]; · iexact Hq2
    iexact Ho2
  iintro HO
  rw [wp_ret]; imodintro
  ispecialize HQ $$ HO
  iapply HQ

theorem step2 (c : Dev nD) (W : Waits sig Unit) (v2 v30 : BitVec 32) (v31 : BitVec 1) {Q : _ → sProp 𝕄} :
    iprop(records WQ WO K ∗ levAts L lv ∗ owes (c : Thread nD τ) (OR c + promiseBar c 3) W ∗ sigRes (F := F) c 3 ∗ cred (tallyAt (barCell c) () 3) ∗ atPos ER (barCell c) 0 ∅ 0 ∗ sendRes WQ WO c 0 3
        ∗ (∀ W', ((owes (c : Thread nD τ) (promise c 1 1 + promise c 0 1 + promise c 1 2 + promise c 0 2 + promise c 1 3) W' ∗ atPos ER (barCell c) (0 + 1) ∅ 0 ∗ sent (F := F) c 0 3
              ∗ (slotQAny (F := F) (fwd c 1) c ∗ slotOAny (F := F) (fwd c 1) c) ∗ (slotQAny (F := F) (fwd c 2) c ∗ slotOAny (F := F) (fwd c 2) c) ∗ slotOAny (F := F) (fwd c 3) c) -∗ ∀ v53, Q v53)))
      ⊢ wp frame (wpE (defs₀ (F := F)) 𝒱₀ (c : Thread nD τ) none) Set.univ (k0_part2 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v2 (SemArray.scalar (sig.barrier 0 rfl)) v30 4#32 v31) Q := by
  rw [k0_part2_eq_skeleton]; unfold k0_part2_skel sigRes sendRes
  simp only [Prog.lift, Prog.bind_op, Prog.bind_ret, Prog.pure_eq_ret, wp_deviceId]
  iintro ⟨#HR, #Hlev, HO, ⟨Ht, Hq, Ho⟩, Hc, Hat, ⟨Hs03, Ht03, Hr03, #He03⟩, HQ⟩
  iapply (signal_step WQ WO K c _ 3 (by decide) (dev3_eq c) (OR c) (OR c + promiseBar c 3) rfl W) $$ [HO Ht Hq Ho]
  · isplitr; · iexact HR
    isplitl [HO]; · iexact HO
    isplitl [Ht]; · iexact Ht
    isplitl [Hq]; · iexact Hq
    iexact Ho
  iintro HO
  iapply (barrier_step WQ WO K c W) $$ [HO Hc Hat]
  · isplitr; · iexact HR
    isplitr; · iexact Hlev
    isplitl [Hc]; · iexact Hc
    isplitl [HO]; · iexact HO
    iexact Hat
  iintro ⟨HO, Hat, HA1, HA2, ⟨Hq3, Ho3⟩⟩
  iapply (sendQ_step WQ WO K c _ 3 (by decide) (dev4_eq c) (sliceQ_eq c (off1_eq c) _) (by rfl) (by rfl) (promise c 1 1 + promise c 0 1 + promise c 1 2 + promise c 0 2 + promise c 1 3) (OR c) rfl _) $$ [Hq3 HO Hs03 Ht03 Hr03]
  · isplitr; · iexact HR
    isplitl [Hs03]; · iexact Hs03
    isplitl [Hq3]; · iexact Hq3
    isplitl [HO]; · iexact HO
    isplitl [Ht03]; · iexact Ht03
    isplitl [Hr03]; · iexact Hr03
    iexact He03
  iintro ⟨Hc03, HO⟩
  rw [wp_ret]; imodintro
  ispecialize HQ $$ %_ [HO Hat HA1 HA2 Hc03 Ho3]
  · isplitl [HO]; · iexact HO
    isplitl [Hat]; · iexact Hat
    isplitl [Hc03]; · iexact Hc03
    isplitl [HA1]; · iexact HA1
    isplitl [HA2]; · iexact HA2
    iexact Ho3
  iapply HQ

theorem step3 (c : Dev nD) (W' : Waits sig Unit) (v2 v53 : BitVec 32) {Q : _ → sProp 𝕄} :
    iprop(records WQ WO K ∗ owes (c : Thread nD τ) (promise c 1 1 + promise c 0 1 + promise c 1 2 + promise c 0 2 + promise c 1 3) W' ∗ sendRes WQ WO c 1 3 ∗ sendRes WQ WO c 0 2 ∗ slotOAny (F := F) (fwd c 3) c ∗ slotQAny (F := F) (fwd c 2) c
        ∗ ((owes (c : Thread nD τ) (promise c 1 1 + promise c 0 1 + promise c 1 2) W' ∗ sent (F := F) c 1 3 ∗ sent (F := F) c 0 2) -∗ Q ⟨⟩))
      ⊢ wp frame (wpE (defs₀ (F := F)) 𝒱₀ (c : Thread nD τ) none) Set.univ (k0_part3 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v2 v53) Q := by
  rw [k0_part3_eq_skeleton]; unfold k0_part3_skel sendRes
  simp only [Prog.lift, Prog.bind_op, Prog.bind_ret, Prog.pure_eq_ret, wp_deviceId]
  iintro ⟨#HR, HO, ⟨Hs13, Ht13, Hr13, #He13⟩, ⟨Hs02, Ht02, Hr02, #He02⟩, H13, H02, HQ⟩
  iapply (sendO_step WQ WO K c _ 3 (by decide) (dev5_eq c) (sliceO_eq c (off2_eq c) _) (by rfl) (by rfl) (promise c 1 1 + promise c 0 1 + promise c 1 2 + promise c 0 2) (promise c 1 1 + promise c 0 1 + promise c 1 2 + promise c 0 2 + promise c 1 3) rfl W') $$ [H13 HO Hs13 Ht13 Hr13]
  · isplitr; · iexact HR
    isplitl [Hs13]; · iexact Hs13
    isplitl [H13]; · iexact H13
    isplitl [HO]; · iexact HO
    isplitl [Ht13]; · iexact Ht13
    isplitl [Hr13]; · iexact Hr13
    iexact He13
  iintro ⟨Hc13, HO⟩
  iapply (sendQ_step WQ WO K c _ 2 (by decide) (dev6_eq c) (sliceQ_eq c (off1_eq c) _) (by rfl) (by rfl) (promise c 1 1 + promise c 0 1 + promise c 1 2) (promise c 1 1 + promise c 0 1 + promise c 1 2 + promise c 0 2) rfl W') $$ [H02 HO Hs02 Ht02 Hr02]
  · isplitr; · iexact HR
    isplitl [Hs02]; · iexact Hs02
    isplitl [H02]; · iexact H02
    isplitl [HO]; · iexact HO
    isplitl [Ht02]; · iexact Ht02
    isplitl [Hr02]; · iexact Hr02
    iexact He02
  iintro ⟨Hc02, HO⟩
  rw [wp_ret]; imodintro
  iapply HQ
  isplitl [HO]; · iexact HO
  isplitl [Hc13]; · iexact Hc13
  iexact Hc02

theorem step4 (c : Dev nD) (W' : Waits sig Unit) (v2 : BitVec 32) {Q : _ → sProp 𝕄} :
    iprop(records WQ WO K ∗ owes (c : Thread nD τ) (promise c 1 1 + promise c 0 1 + promise c 1 2) W' ∗ sendRes WQ WO c 1 2 ∗ sendRes WQ WO c 0 1 ∗ sendRes WQ WO c 1 1
          ∗ slotOAny (F := F) (fwd c 2) c ∗ slotQAny (F := F) (fwd c 1) c ∗ slotOAny (F := F) (fwd c 1) c
        ∗ ((owes (c : Thread nD τ) 0 W' ∗ sent (F := F) c 1 2 ∗ sent (F := F) c 0 1 ∗ sent (F := F) c 1 1) -∗ Q ⟨⟩))
      ⊢ wp frame (wpE (defs₀ (F := F)) 𝒱₀ (c : Thread nD τ) none) Set.univ (k0_part4 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v2) Q := by
  rw [k0_part4_eq_skeleton]; unfold k0_part4_skel sendRes
  simp only [Prog.lift, Prog.bind_op, Prog.bind_ret, Prog.pure_eq_ret, wp_deviceId]
  iintro ⟨#HR, HO, ⟨Hs12, Ht12, Hr12, #He12⟩, ⟨Hs01, Ht01, Hr01, #He01⟩, ⟨Hs11, Ht11, Hr11, #He11⟩, H12, H01, H11, HQ⟩
  iapply (sendO_step WQ WO K c _ 2 (by decide) (dev7_eq c) (sliceO_eq c (off2_eq c) _) (by rfl) (by rfl) (promise c 1 1 + promise c 0 1) (promise c 1 1 + promise c 0 1 + promise c 1 2) rfl W') $$ [H12 HO Hs12 Ht12 Hr12]
  · isplitr; · iexact HR
    isplitl [Hs12]; · iexact Hs12
    isplitl [H12]; · iexact H12
    isplitl [HO]; · iexact HO
    isplitl [Ht12]; · iexact Ht12
    isplitl [Hr12]; · iexact Hr12
    iexact He12
  iintro ⟨Hc12, HO⟩
  iapply (sendQ_step WQ WO K c _ 1 (by decide) (dev8_eq c) (sliceQ_eq c (off1_eq c) _) (by rfl) (by rfl) (promise c 1 1) (promise c 1 1 + promise c 0 1) rfl W') $$ [H01 HO Hs01 Ht01 Hr01]
  · isplitr; · iexact HR
    isplitl [Hs01]; · iexact Hs01
    isplitl [H01]; · iexact H01
    isplitl [HO]; · iexact HO
    isplitl [Ht01]; · iexact Ht01
    isplitl [Hr01]; · iexact Hr01
    iexact He01
  iintro ⟨Hc01, HO⟩
  iapply (sendO_step WQ WO K c _ 1 (by decide) (dev9_eq c) (sliceO_eq c (off2_eq c) _) (by rfl) (by rfl) (0) (promise c 1 1) (zero_add _).symm W') $$ [H11 HO Hs11 Ht11 Hr11]
  · isplitr; · iexact HR
    isplitl [Hs11]; · iexact Hs11
    isplitl [H11]; · iexact H11
    isplitl [HO]; · iexact HO
    isplitl [Ht11]; · iexact Ht11
    isplitl [Hr11]; · iexact Hr11
    iexact He11
  iintro ⟨Hc11, HO⟩
  rw [wp_ret]; imodintro
  iapply HQ
  isplitl [HO]; · iexact HO
  isplitl [Hc12]; · iexact Hc12
  isplitl [Hc01]; · iexact Hc01
  iexact Hc11

end Cert.BlockAttn
-- ==== Proof.Work.lean ====
/-
The remaining parts of the body, and the reading parts again at the values they meet: what a part continues with is named by
the queries, the contexts and the contributions of `Values`.
-/
module

public import proofs.«01_k».proof.Proof.Speak

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loading a slot that has arrived, and the kept share of the own blocks -/

section Slots
variable (WQ : Dev nD → (cc0_stg1_0 : Ref sig .tc).ty.Contents (Elt F)) (WO : Dev nD → (cc0_stg4_0 : Ref sig .tc).ty.Contents (Elt F))
variable (c : Dev nD) {α : Type}

/-- A block with the leading unit axis of a slot. -/
def upQ (W : FVec F S512x256 .bf16) : FVec F S1x512x256 .bf16 := shapeCast S1x512x256 W shapeCasts_S1x512x256_S512x256.symm
def upO (W : FVec F S256x512 .bf16) : FVec F S1x256x512 .bf16 := shapeCast S1x256x512 W shapeCasts_S1x256x512_S256x512.symm

theorem down_upQ (W : FVec F S512x256 .bf16) : shapeCast S512x256 (upQ W) shapeCasts_S1x512x256_S512x256 = W := shapeCast_shapeCast W _ _
theorem down_upO (W : FVec F S256x512 .bf16) : shapeCast S256x512 (upO W) shapeCasts_S1x256x512_S256x512 = W := shapeCast_shapeCast W _ _
theorem ldGQ_up (r : Fin 3) (f : (cc0_scratch0 : Ref sig .tc).ty.Contents (Elt F)) :
    ldGQ c r f = upQ ((slotQ (bwd c (inv r.succ))).view.read (Elt F) f) := by
  rw [← ldGQ_eq]; exact (shapeCast_shapeCast (ldGQ c r f) _ _).symm
theorem ldGO_up (r : Fin 3) (f : (cc0_scratch1 : Ref sig .tc).ty.Contents (Elt F)) :
    ldGO c r f = upO ((slotO (bwd c (inv r.succ))).view.read (Elt F) f) := by
  rw [← ldGO_eq]; exact (shapeCast_shapeCast (ldGO c r f) _ _).symm

theorem accQ_set (r : Fin 3) : gqM.view.setOn (Rect.unit (s := S4x512x256) (k0_off6 c (BitVec.ofNat 32 (1 + r.val))) S1x512x256.size (k0_off6_inb c r)).set
    = (slotQ (bwd c (inv r.succ))).view.set := by
  generalize hh : k0_off6_inb c r = hin
  clear hh
  revert hin
  rw [off6_eq c r]
  intro hin
  symm
  show ((gqM.view.slice _).reshape _ _).set = _
  rw [View.set_reshape]
  exact View.set_slice _ _
theorem accO_set (r : Fin 3) : goM.view.setOn (Rect.unit (s := S4x256x512) (k0_off8 c (BitVec.ofNat 32 (1 + r.val))) S1x256x512.size (k0_off8_inb c r)).set
    = (slotO (bwd c (inv r.succ))).view.set := by
  generalize hh : k0_off8_inb c r = hin
  clear hh
  revert hin
  rw [off8_eq c r]
  intro hin
  symm
  show ((goM.view.slice _).reshape _ _).set = _
  rw [View.set_reshape]
  exact View.set_slice _ _

theorem load_slotQ (r : Fin 3) (o : Fin 4) (ho : o = inv r.succ) {Q : α → sProp 𝕄} {hl : gqM.view.LoadsAt (Rect.unit (s := S4x512x256) (k0_off6 c (BitVec.ofNat 32 (1 + r.val))) S1x512x256.size (k0_off6_inb c r)).toLoadRect}
    {k : (S1x512x256.Idx → Elt F .bf16) → Prog (TpuEff nD τ sig (Elt F) Λ₀ .tc) α} :
    recvPay WQ WO c 0 o
      ⊢ iprop((recvPay WQ WO c 0 o -∗ wp frame (wpE (defs₀ (F := F)) 𝒱₀ (c : Thread nD τ) none) Set.univ (k (upQ (WQ (fwd c r.succ)))) Q)
          -∗ wp frame (wpE (defs₀ (F := F)) 𝒱₀ (c : Thread nD τ) none) Set.univ (.op (.load gqM (Rect.unit (s := S4x512x256) (k0_off6 c (BitVec.ofNat 32 (1 + r.val))) S1x512x256.size (k0_off6_inb c r)).toLoadRect hl) k) Q) := by
  subst ho
  unfold recvPay owns; dsimp only
  rw [← bwd_inv]
  iintro ⟨%f, %hf, H⟩ Hk
  have h := wp_load (defs := defs₀ (F := F)) (Γ := .empty) (Q := Q) 𝒱₀ (c : Thread nD τ) none Set.univ (m := gqM)
    (r := (Rect.unit (s := S4x512x256) (k0_off6 c (BitVec.ofNat 32 (1 + r.val))) S1x512x256.size (k0_off6_inb c r)).toLoadRect) (hl := hl) (k := k) (q := fullShare) (f := f)
    (S := (slotQ (bwd c (inv r.succ))).view.set) (le_of_eq (accQ_set c r))
  rw [show gqM.view.readAt (Elt F) (Rect.unit (s := S4x512x256) (k0_off6 c (BitVec.ofNat 32 (1 + r.val))) S1x512x256.size (k0_off6_inb c r)).toLoadRect f
    = upQ (WQ (bwd c (inv r.succ))) from (ldGQ_up c r f).trans (by rw [hf])] at h
  ihave H := (Entails.of_eq (show (((slotQ (bwd c (inv r.succ))).view.loc (c : Thread nD τ) ↦[(slotQ (bwd c (inv r.succ))).view.set]{fullShare} f : sProp 𝕄))
    = (gqM.view.loc (c : Thread nD τ) ↦[(slotQ (bwd c (inv r.succ))).view.set]{fullShare} f) from rfl)) $$ H
  iapply h $$ H
  iintro H
  iapply Hk
  iexists f
  isplitr; · ipureintro; exact hf
  iexact H
theorem load_slotO (r : Fin 3) (o : Fin 4) (ho : o = inv r.succ) {Q : α → sProp 𝕄} {hl : goM.view.LoadsAt (Rect.unit (s := S4x256x512) (k0_off8 c (BitVec.ofNat 32 (1 + r.val))) S1x256x512.size (k0_off8_inb c r)).toLoadRect}
    {k : (S1x256x512.Idx → Elt F .bf16) → Prog (TpuEff nD τ sig (Elt F) Λ₀ .tc) α} :
    recvPay WQ WO c 1 o
      ⊢ iprop((recvPay WQ WO c 1 o -∗ wp frame (wpE (defs₀ (F := F)) 𝒱₀ (c : Thread nD τ) none) Set.univ (k (upO (WO (fwd c r.succ)))) Q)
          -∗ wp frame (wpE (defs₀ (F := F)) 𝒱₀ (c : Thread nD τ) none) Set.univ (.op (.load goM (Rect.unit (s := S4x256x512) (k0_off8 c (BitVec.ofNat 32 (1 + r.val))) S1x256x512.size (k0_off8_inb c r)).toLoadRect hl) k) Q) := by
  subst ho
  unfold recvPay owns; dsimp only
  rw [← bwd_inv]
  iintro ⟨%f, %hf, H⟩ Hk
  have h := wp_load (defs := defs₀ (F := F)) (Γ := .empty) (Q := Q) 𝒱₀ (c : Thread nD τ) none Set.univ (m := goM)
    (r := (Rect.unit (s := S4x256x512) (k0_off8 c (BitVec.ofNat 32 (1 + r.val))) S1x256x512.size (k0_off8_inb c r)).toLoadRect) (hl := hl) (k := k) (q := fullShare) (f := f)
    (S := (slotO (bwd c (inv r.succ))).view.set) (le_of_eq (accO_set c r))
  rw [show goM.view.readAt (Elt F) (Rect.unit (s := S4x256x512) (k0_off8 c (BitVec.ofNat 32 (1 + r.val))) S1x256x512.size (k0_off8_inb c r)).toLoadRect f
    = upO (WO (bwd c (inv r.succ))) from (ldGO_up c r f).trans (by rw [hf])] at h
  ihave H := (Entails.of_eq (show (((slotO (bwd c (inv r.succ))).view.loc (c : Thread nD τ) ↦[(slotO (bwd c (inv r.succ))).view.set]{fullShare} f : sProp 𝕄))
    = (goM.view.loc (c : Thread nD τ) ↦[(slotO (bwd c (inv r.succ))).view.set]{fullShare} f) from rfl)) $$ H
  iapply h $$ H
  iintro H
  iapply Hk
  iexists f
  isplitr; · ipureintro; exact hf
  iexact H

theorem zero2 : (![0, 0] : Fin 2 → ℕ) = fun _ => 0 := funext fun a => by fin_cases a <;> rfl

theorem load_wq {Q : α → sProp 𝕄} {hl : wqM.view.LoadsAt (Rect.unit (s := S512x256) ![0, 0] S512x256.size inb_S512x256_S512x256_0_0).toLoadRect}
    {k : (S512x256.Idx → Elt F .bf16) → Prog (TpuEff nD τ sig (Elt F) Λ₀ .tc) α} :
    sendPay WQ WO c 0 0
      ⊢ iprop((sendPay WQ WO c 0 0 -∗ wp frame (wpE (defs₀ (F := F)) 𝒱₀ (c : Thread nD τ) none) Set.univ (k (WQ c)) Q)
          -∗ wp frame (wpE (defs₀ (F := F)) 𝒱₀ (c : Thread nD τ) none) Set.univ (.op (.load wqM (Rect.unit (s := S512x256) ![0, 0] S512x256.size inb_S512x256_S512x256_0_0).toLoadRect hl) k) Q) := by
  unfold sendPay; dsimp only
  have h := wp_load (defs := defs₀ (F := F)) (Γ := .empty) (Q := Q) 𝒱₀ (c : Thread nD τ) none Set.univ (m := wqM)
    (r := (Rect.unit (s := S512x256) ![0, 0] S512x256.size inb_S512x256_S512x256_0_0).toLoadRect) (hl := hl) (k := k) (q := lent 0) (f := WQ c)
    (S := wqM.view.set) (by rw [View.set_whole]; exact Finset.subset_univ _)
  have e := Memref.readAt_unit_zero (Elt F) cc0_stg1_0 zero2 inb_S512x256_S512x256_0_0 (WQ c)
  exact (congrArg (fun z => (wp frame (wpE (defs₀ (F := F)) 𝒱₀ (c : Thread nD τ) none) Set.univ (k z) Q : sProp 𝕄)) e) ▸ h
theorem load_wo {Q : α → sProp 𝕄} {hl : woM.view.LoadsAt (Rect.unit (s := S256x512) ![0, 0] S256x512.size inb_S256x512_S256x512_0_0).toLoadRect}
    {k : (S256x512.Idx → Elt F .bf16) → Prog (TpuEff nD τ sig (Elt F) Λ₀ .tc) α} :
    sendPay WQ WO c 1 0
      ⊢ iprop((sendPay WQ WO c 1 0 -∗ wp frame (wpE (defs₀ (F := F)) 𝒱₀ (c : Thread nD τ) none) Set.univ (k (WO c)) Q)
          -∗ wp frame (wpE (defs₀ (F := F)) 𝒱₀ (c : Thread nD τ) none) Set.univ (.op (.load woM (Rect.unit (s := S256x512) ![0, 0] S256x512.size inb_S256x512_S256x512_0_0).toLoadRect hl) k) Q) := by
  unfold sendPay; dsimp only
  have h := wp_load (defs := defs₀ (F := F)) (Γ := .empty) (Q := Q) 𝒱₀ (c : Thread nD τ) none Set.univ (m := woM)
    (r := (Rect.unit (s := S256x512) ![0, 0] S256x512.size inb_S256x512_S256x512_0_0).toLoadRect) (hl := hl) (k := k) (q := lent 0) (f := WO c)
    (S := woM.view.set) (by rw [View.set_whole]; exact Finset.subset_univ _)
  have e := Memref.readAt_unit_zero (Elt F) cc0_stg4_0 zero2 inb_S256x512_S256x512_0_0 (WO c)
  exact (congrArg (fun z => (wp frame (wpE (defs₀ (F := F)) 𝒱₀ (c : Thread nD τ) none) Set.univ (k z) Q : sProp 𝕄)) e) ▸ h

end Slots

/-! ## Intermediate values of a part -/

/-- The columns of head `h` of the queries. -/
def headQ (h : Fin 4) (q : FVec F S256x256 .bf16) : FVec F S256x64 .bf16 := extractStridedSlice S256x64 ![0, 64 * h.val] q (slices_head h)
/-- The queries before they are scaled. -/
def qPre (I : In F) (c : Dev nD) (o : Fin 4) (b : Fin 2) : FVec F S256x256 .f32 :=
  matmul dot_S256x512_S512x256_S256x256_1_0_0_1_n_n none (shapeCast S256x512 (entry I.X b) shapeCasts_S1x256x512_S256x512 : FVec F S256x512 .bf16) (I.WQ (fwd c o))
    (constant S256x256 .f32 0x00000000#32)

theorem fwd_zero (c : Dev nD) : fwd c 0 = c := by revert c; decide

section Names
variable (W : FVec F S512x256 .bf16) (Wo : FVec F S256x512 .bf16) (x : Vec F S1x256x512 .bf16) (k v : Vec F S1x1x256x64 .bf16)
variable (x0 x1 x2 x3 : FVec F S256x64 .bf16) (a : Vec F S1x256x512 .f32)

theorem pay7_eq : k0_pay7 W = W := shapeCast_self W _
theorem pay8_eq : k0_pay8 W x = qOf W x := by
  show qOf (k0_pay7 W) x = _; rw [pay7_eq]
theorem pay25_eq : k0_pay25 Wo = Wo := shapeCast_self Wo _
theorem pay28_eq : k0_pay28 (upQ W) = W := down_upQ W
theorem pay50_eq : k0_pay50 (upQ W) = W := down_upQ W
theorem pay70_eq : k0_pay70 (upQ W) = W := down_upQ W
theorem pay29_eq : k0_pay29 (upQ W) x = qOf W x := by
  show qOf (k0_pay28 (upQ W)) x = _; rw [pay28_eq]
theorem pay71_eq : k0_pay71 (upQ W) x = qOf W x := by
  show qOf (k0_pay70 (upQ W)) x = _; rw [pay70_eq]
theorem pay30_eq : k0_pay30 maskV (upQ W) x k v = headCtx 0 (qOf W x) k v := by
  show headCtx 0 (k0_pay29 (upQ W) x) k v = _; rw [pay29_eq]
theorem pay31_eq : k0_pay31 (upQ W) x = headQ 1 (qOf W x) := by
  show headQ 1 (k0_pay29 (upQ W) x) = _; rw [pay29_eq]
theorem pay72_eq : k0_pay72 (upQ W) x = headQ 0 (qOf W x) := by
  show headQ 0 (k0_pay71 (upQ W) x) = _; rw [pay71_eq]
theorem pay51_eq (I : In F) (c : Dev nD) : k0_pay51 (upQ (I.WQ (fwd c 2))) (entry I.X 0) = qPre I c 2 0 := by
  show matmul _ none _ (k0_pay50 (upQ (I.WQ (fwd c 2)))) _ = _; rw [pay50_eq]; rfl

theorem pay26_eq (y : Fin 4 → FVec F S256x64 .bf16) : k0_pay26 (y 0) (y 1) (y 2) (y 3) Wo = put (contrib y Wo) := by
  show put (contrib y (k0_pay25 Wo)) = _; rw [pay25_eq]
theorem pay27_eq (y : Fin 4 → FVec F S256x64 .bf16) : k0_pay27 (y 0) (y 1) (y 2) (y 3) Wo = put (contrib y Wo) := rfl
theorem pay46_eq : k0_pay46 (upO Wo) = Wo := down_upO Wo
theorem pay67_eq : k0_pay67 (upO Wo) = Wo := down_upO Wo
theorem pay88_eq : k0_pay88 (upO Wo) = Wo := down_upO Wo
theorem pay47_eq (y : Fin 4 → FVec F S256x64 .bf16) : k0_pay47 (y 0) (y 1) (y 2) (y 3) (upO Wo) a = addTo a (contrib y Wo) := by
  show addTo a (contrib y (k0_pay46 (upO Wo))) = _; rw [pay46_eq]
theorem pay48_eq (y : Fin 4 → FVec F S256x64 .bf16) : k0_pay48 (y 0) (y 1) (y 2) (y 3) (upO Wo) = contrib y Wo := by
  show contrib y (k0_pay46 (upO Wo)) = _; rw [pay46_eq]
theorem pay49_eq (n : FVec F S256x512 .f32) : k0_pay49 n a = addTo a n := rfl
theorem pay68_eq (y : Fin 4 → FVec F S256x64 .bf16) : k0_pay68 (y 0) (y 1) (y 2) (y 3) (upO Wo) a = addTo a (contrib y Wo) := by
  show addTo a (contrib y (k0_pay67 (upO Wo))) = _; rw [pay67_eq]
theorem pay69_eq (y : Fin 4 → FVec F S256x64 .bf16) : k0_pay69 (y 0) (y 1) (y 2) (y 3) (upO Wo) a = addTo a (contrib y Wo) := by
  show addTo a (contrib y (k0_pay67 (upO Wo))) = _; rw [pay67_eq]
theorem pay89_eq : k0_pay89 x0 (upO Wo) = headOut 0 x0 Wo := by
  show headOut 0 x0 (k0_pay88 (upO Wo)) = _; rw [pay88_eq]
theorem pay90_eq : k0_pay90 x0 (upO Wo) = headOut 1 x0 Wo := by
  show headOut 1 x0 (k0_pay88 (upO Wo)) = _; rw [pay88_eq]
theorem pay91_eq : k0_pay91 x0 (upO Wo) = headOut 2 x0 Wo := by
  show headOut 2 x0 (k0_pay88 (upO Wo)) = _; rw [pay88_eq]
theorem pay92_eq (y : Fin 4 → FVec F S256x64 .bf16) : k0_pay92 (y 3) Wo (headOut 0 (y 0) Wo) (headOut 1 (y 1) Wo) (headOut 2 (y 2) Wo) a = addTo a (contrib y Wo) := rfl
theorem pay93_eq (y : Fin 4 → FVec F S256x64 .bf16) : k0_pay93 (y 0) (y 1) (y 2) (y 3) Wo a = addTo a (contrib y Wo) := rfl

end Names

/-! ## The reading parts at their values -/

theorem step7 (I : In F) (c : Dev nD) (v195 : BitVec 32) {Q : _ → sProp 𝕄} :
    iprop(KVX I.K I.V I.X c ∗ (KVX I.K I.V I.X c -∗ Q ⟨(cV I c 0 0 0), k0_pay10 maskV (qV I c 0 0) (ldK I.K c 0 0 1), k0_pay11 maskV (qV I c 0 0) (ldK I.K c 0 0 1), (ldV I.V c 0 0 1)⟩))
      ⊢ wp frame (wpE (defs₀ (F := F)) 𝒱₀ (c : Thread nD τ) none) Set.univ (k0_part7 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v195 (qV I c 0 0)) Q :=
  part7 I.K I.V I.X c maskV v195 (qV I c 0 0) Q

theorem step8 (I : In F) (c : Dev nD) (v195 : BitVec 32) {Q : _ → sProp 𝕄} :
    iprop(KVX I.K I.V I.X c ∗ (KVX I.K I.V I.X c -∗ Q ⟨(cV I c 0 0 1), (cV I c 0 0 2), (Scalar.addi (Scalar.muli v195 4#32) 3#32), k0_pay14 maskV (qV I c 0 0) (ldK I.K c 0 0 3), k0_pay15 maskV (qV I c 0 0) (ldK I.K c 0 0 3)⟩))
      ⊢ wp frame (wpE (defs₀ (F := F)) 𝒱₀ (c : Thread nD τ) none) Set.univ (k0_part8 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v195 (qV I c 0 0) (k0_pay10 maskV (qV I c 0 0) (ldK I.K c 0 0 1)) (k0_pay11 maskV (qV I c 0 0) (ldK I.K c 0 0 1)) ((ldV I.V c 0 0 1))) Q :=
  part8 I.K I.V I.X c maskV v195 (qV I c 0 0) (k0_pay10 maskV (qV I c 0 0) (ldK I.K c 0 0 1)) (k0_pay11 maskV (qV I c 0 0) (ldK I.K c 0 0 1)) ((ldV I.V c 0 0 1)) Q

theorem step9 (I : In F) (c : Dev nD) (v195 v268 : BitVec 32) {Q : _ → sProp 𝕄} :
    iprop(KVX I.K I.V I.X c ∗ (KVX I.K I.V I.X c -∗ Q ⟨(cV I c 0 0 3), (qV I c 0 1), (cV I c 0 1 0), (Scalar.addi (Scalar.muli v195 4#32) 1#32)⟩))
      ⊢ wp frame (wpE (defs₀ (F := F)) 𝒱₀ (c : Thread nD τ) none) Set.univ (k0_part9 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v195 (I.WQ (fwd c 0)) v268 (k0_pay14 maskV (qV I c 0 0) (ldK I.K c 0 0 3)) (k0_pay15 maskV (qV I c 0 0) (ldK I.K c 0 0 3))) Q :=
  part9 I.K I.V I.X c maskV v195 (I.WQ (fwd c 0)) v268 (k0_pay14 maskV (qV I c 0 0) (ldK I.K c 0 0 3)) (k0_pay15 maskV (qV I c 0 0) (ldK I.K c 0 0 3)) Q

theorem step10 (I : In F) (c : Dev nD) (v195 v316 : BitVec 32) {Q : _ → sProp 𝕄} :
    iprop(KVX I.K I.V I.X c ∗ (KVX I.K I.V I.X c -∗ Q ⟨(cV I c 0 1 1), k0_pay21 maskV (qV I c 0 1) (ldK I.K c 0 1 2) (ldV I.V c 0 1 2), k0_pay22 maskV (qV I c 0 1) (ldK I.K c 0 1 2)⟩))
      ⊢ wp frame (wpE (defs₀ (F := F)) 𝒱₀ (c : Thread nD τ) none) Set.univ (k0_part10 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v195 (qV I c 0 1) v316) Q :=
  part10 I.K I.V I.X c maskV v195 (qV I c 0 1) v316 Q

theorem step14 (I : In F) (c : Dev nD) (v418 v458 : BitVec 32) {Q : _ → sProp 𝕄} :
    iprop(KVX I.K I.V I.X c ∗ (KVX I.K I.V I.X c -∗ Q ⟨(cV I c 1 0 1), (cV I c 1 0 2), (Scalar.addi (Scalar.muli v418 4#32) 3#32), k0_pay35 (qV I c 1 0)⟩))
      ⊢ wp frame (wpE (defs₀ (F := F)) 𝒱₀ (c : Thread nD τ) none) Set.univ (k0_part14 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v418 (qV I c 1 0) v458 (headQ 1 (qV I c 1 0)) (k0_pay32 (ldK I.K c 1 0 1))) Q :=
  part14 I.K I.V I.X c maskV v418 (qV I c 1 0) v458 (headQ 1 (qV I c 1 0)) (k0_pay32 (ldK I.K c 1 0 1)) Q

theorem step15 (I : In F) (c : Dev nD) (v418 v500 : BitVec 32) {Q : _ → sProp 𝕄} :
    iprop(KVX I.K I.V I.X c ∗ (KVX I.K I.V I.X c -∗ Q ⟨(cV I c 1 0 3), (qV I c 1 1), (Scalar.addi (Scalar.muli v418 4#32) 0#32), k0_pay38 maskV (I.WQ (fwd c 1)) (entry I.X 1) (ldK I.K c 1 1 0), k0_pay39 maskV (I.WQ (fwd c 1)) (entry I.X 1) (ldK I.K c 1 1 0)⟩))
      ⊢ wp frame (wpE (defs₀ (F := F)) 𝒱₀ (c : Thread nD τ) none) Set.univ (k0_part15 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v418 (I.WQ (fwd c 1)) v500 (k0_pay35 (qV I c 1 0))) Q :=
  part15 I.K I.V I.X c maskV v418 (I.WQ (fwd c 1)) v500 (k0_pay35 (qV I c 1 0)) Q

theorem step16 (I : In F) (c : Dev nD) (v418 v527 : BitVec 32) {Q : _ → sProp 𝕄} :
    iprop(KVX I.K I.V I.X c ∗ (KVX I.K I.V I.X c -∗ Q ⟨(cV I c 1 1 0), (cV I c 1 1 1), (Scalar.addi (Scalar.muli v418 4#32) 2#32), k0_pay42 (qV I c 1 1) (ldK I.K c 1 1 2), k0_pay43 (F := F)⟩))
      ⊢ wp frame (wpE (defs₀ (F := F)) 𝒱₀ (c : Thread nD τ) none) Set.univ (k0_part16 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v418 (qV I c 1 1) v527 (k0_pay38 maskV (I.WQ (fwd c 1)) (entry I.X 1) (ldK I.K c 1 1 0)) (k0_pay39 maskV (I.WQ (fwd c 1)) (entry I.X 1) (ldK I.K c 1 1 0))) Q :=
  part16 I.K I.V I.X c maskV v418 (qV I c 1 1) v527 (k0_pay38 maskV (I.WQ (fwd c 1)) (entry I.X 1) (ldK I.K c 1 1 0)) (k0_pay39 maskV (I.WQ (fwd c 1)) (entry I.X 1) (ldK I.K c 1 1 0)) Q

theorem step17 (I : In F) (c : Dev nD) (v418 v569 : BitVec 32) {Q : _ → sProp 𝕄} :
    iprop(KVX I.K I.V I.X c ∗ (KVX I.K I.V I.X c -∗ Q ⟨(cV I c 1 1 2), (cV I c 1 1 3)⟩))
      ⊢ wp frame (wpE (defs₀ (F := F)) 𝒱₀ (c : Thread nD τ) none) Set.univ (k0_part17 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v418 (qV I c 1 1) v569 (k0_pay42 (qV I c 1 1) (ldK I.K c 1 1 2)) (k0_pay43 (F := F))) Q :=
  part17 I.K I.V I.X c maskV v418 (qV I c 1 1) v569 (k0_pay42 (qV I c 1 1) (ldK I.K c 1 1 2)) (k0_pay43 (F := F)) Q

theorem step20 (I : In F) (c : Dev nD) (v665 : BitVec 32) {Q : _ → sProp 𝕄} :
    iprop(KVX I.K I.V I.X c ∗ (KVX I.K I.V I.X c -∗ Q ⟨(qV I c 2 0), (cV I c 2 0 0), k0_pay54 maskV (qPre I c 2 0) (ldK I.K c 2 0 1), k0_pay55 maskV (qPre I c 2 0) (ldK I.K c 2 0 1)⟩))
      ⊢ wp frame (wpE (defs₀ (F := F)) 𝒱₀ (c : Thread nD τ) none) Set.univ (k0_part20 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v665 (qPre I c 2 0)) Q :=
  part20 I.K I.V I.X c maskV v665 (qPre I c 2 0) Q

theorem step21 (I : In F) (c : Dev nD) (v665 : BitVec 32) {Q : _ → sProp 𝕄} :
    iprop(KVX I.K I.V I.X c ∗ (KVX I.K I.V I.X c -∗ Q ⟨(cV I c 2 0 1), (cV I c 2 0 2), (Scalar.addi (Scalar.muli v665 4#32) 3#32), k0_pay58 maskV (qV I c 2 0) (ldK I.K c 2 0 3)⟩))
      ⊢ wp frame (wpE (defs₀ (F := F)) 𝒱₀ (c : Thread nD τ) none) Set.univ (k0_part21 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v665 (qV I c 2 0) (k0_pay54 maskV (qPre I c 2 0) (ldK I.K c 2 0 1)) (k0_pay55 maskV (qPre I c 2 0) (ldK I.K c 2 0 1))) Q :=
  part21 I.K I.V I.X c maskV v665 (qV I c 2 0) (k0_pay54 maskV (qPre I c 2 0) (ldK I.K c 2 0 1)) (k0_pay55 maskV (qPre I c 2 0) (ldK I.K c 2 0 1)) Q

theorem step22 (I : In F) (c : Dev nD) (v665 v747 : BitVec 32) {Q : _ → sProp 𝕄} :
    iprop(KVX I.K I.V I.X c ∗ (KVX I.K I.V I.X c -∗ Q ⟨(cV I c 2 0 3), (qV I c 2 1), (cV I c 2 1 0)⟩))
      ⊢ wp frame (wpE (defs₀ (F := F)) 𝒱₀ (c : Thread nD τ) none) Set.univ (k0_part22 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v665 (I.WQ (fwd c 2)) v747 (k0_pay58 maskV (qV I c 2 0) (ldK I.K c 2 0 3))) Q :=
  part22 I.K I.V I.X c maskV v665 (I.WQ (fwd c 2)) v747 (k0_pay58 maskV (qV I c 2 0) (ldK I.K c 2 0 3)) Q

theorem step23 (I : In F) (c : Dev nD) (v665 : BitVec 32) {Q : _ → sProp 𝕄} :
    iprop(KVX I.K I.V I.X c ∗ (KVX I.K I.V I.X c -∗ Q ⟨(cV I c 2 1 1), k0_pay63 maskV (qV I c 2 1) (ldK I.K c 2 1 2), k0_pay64 maskV (qV I c 2 1) (ldK I.K c 2 1 2), (ldV I.V c 2 1 2)⟩))
      ⊢ wp frame (wpE (defs₀ (F := F)) 𝒱₀ (c : Thread nD τ) none) Set.univ (k0_part23 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v665 (qV I c 2 1)) Q :=
  part23 I.K I.V I.X c maskV v665 (qV I c 2 1) Q

theorem step27 (I : In F) (c : Dev nD) (v912 v931 : BitVec 32) {Q : _ → sProp 𝕄} :
    iprop(KVX I.K I.V I.X c ∗ (KVX I.K I.V I.X c -∗ Q ⟨(cV I c 3 0 0), (cV I c 3 0 1), (Scalar.muli v912 4#32)⟩))
      ⊢ wp frame (wpE (defs₀ (F := F)) 𝒱₀ (c : Thread nD τ) none) Set.univ (k0_part27 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v912 (qV I c 3 0) v931 (headQ 0 (qV I c 3 0))) Q :=
  part27 I.K I.V I.X c maskV v912 (qV I c 3 0) v931 (headQ 0 (qV I c 3 0)) Q

theorem step28 (I : In F) (c : Dev nD) (v912 v972 : BitVec 32) {Q : _ → sProp 𝕄} :
    iprop(KVX I.K I.V I.X c ∗ (KVX I.K I.V I.X c -∗ Q ⟨(cV I c 3 0 2), k0_pay76 maskV (qV I c 3 0) (ldK I.K c 3 0 3), k0_pay77 maskV (qV I c 3 0) (ldK I.K c 3 0 3), k0_pay78 (ldV I.V c 3 0 3), (constant S256x64 .f32 0x00000000#32)⟩))
      ⊢ wp frame (wpE (defs₀ (F := F)) 𝒱₀ (c : Thread nD τ) none) Set.univ (k0_part28 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v912 (qV I c 3 0) v972) Q :=
  part28 I.K I.V I.X c maskV v912 (qV I c 3 0) v972 Q

theorem step29 (I : In F) (c : Dev nD) (v912 : BitVec 32) {Q : _ → sProp 𝕄} :
    iprop(KVX I.K I.V I.X c ∗ (KVX I.K I.V I.X c -∗ Q ⟨(cV I c 3 0 3), (qV I c 3 1), (cV I c 3 1 0), (Scalar.addi (Scalar.muli v912 4#32) 1#32), k0_pay82 (I.WQ (fwd c 3)) (entry I.X 1), k0_pay83 (ldK I.K c 3 1 1), (constant S256x256 .f32 0x00000000#32)⟩))
      ⊢ wp frame (wpE (defs₀ (F := F)) 𝒱₀ (c : Thread nD τ) none) Set.univ (k0_part29 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v912 (I.WQ (fwd c 3)) (k0_pay76 maskV (qV I c 3 0) (ldK I.K c 3 0 3)) (k0_pay77 maskV (qV I c 3 0) (ldK I.K c 3 0 3)) (k0_pay78 (ldV I.V c 3 0 3)) ((constant S256x64 .f32 0x00000000#32))) Q :=
  part29 I.K I.V I.X c maskV v912 (I.WQ (fwd c 3)) (k0_pay76 maskV (qV I c 3 0) (ldK I.K c 3 0 3)) (k0_pay77 maskV (qV I c 3 0) (ldK I.K c 3 0 3)) (k0_pay78 (ldV I.V c 3 0 3)) ((constant S256x64 .f32 0x00000000#32)) Q

theorem step30 (I : In F) (c : Dev nD) (v912 v1042 : BitVec 32) {Q : _ → sProp 𝕄} :
    iprop(KVX I.K I.V I.X c ∗ (KVX I.K I.V I.X c -∗ Q ⟨(cV I c 3 1 1), (cV I c 3 1 2), (Scalar.addi (Scalar.muli v912 4#32) 3#32), k0_pay86 (qV I c 3 1)⟩))
      ⊢ wp frame (wpE (defs₀ (F := F)) 𝒱₀ (c : Thread nD τ) none) Set.univ (k0_part30 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v912 (qV I c 3 1) v1042 (k0_pay82 (I.WQ (fwd c 3)) (entry I.X 1)) (k0_pay83 (ldK I.K c 3 1 1)) ((constant S256x256 .f32 0x00000000#32))) Q :=
  part30 I.K I.V I.X c maskV v912 (qV I c 3 1) v1042 (k0_pay82 (I.WQ (fwd c 3)) (entry I.X 1)) (k0_pay83 (ldK I.K c 3 1 1)) ((constant S256x256 .f32 0x00000000#32)) Q

end Cert.BlockAttn
-- ==== Proof.Turn.lean ====
/-
The parts of the body that load or store a block, wait for a block to arrive or for a lent share to come back.
-/
module

public import proofs.«01_k».proof.Proof.Work

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Turn
variable (WQ : Dev nD → (cc0_stg1_0 : Ref sig .tc).ty.Contents (Elt F)) (WO : Dev nD → (cc0_stg4_0 : Ref sig .tc).ty.Contents (Elt F))

/-- A device that owes nothing. -/
def idle (c : Dev nD) : sProp 𝕄 := iprop(∃ W, owes (c : Thread nD τ) 0 W)
/-- Before and after the wait for block `t` from distance `o` before. -/
def pend (c : Dev nD) (t : Fin 2) (o : Fin 4) : sProp 𝕄 := iprop(cred (tallyAt (recvCell c t o) () N) ∗ atPos ER (recvCell c t o) 0 ∅ 0)
def got (c : Dev nD) (t : Fin 2) (o : Fin 4) : sProp 𝕄 := iprop(atPos ER (recvCell c t o) (0 + 1) ∅ 0 ∗ recvPay WQ WO c t o)
/-- Before and after the wait for the share lent to the transfer of block `t` to distance `o`. -/
def away (c : Dev nD) (t : Fin 2) (o : Fin 4) : sProp 𝕄 := iprop(cred (tallyAt (sendCell c t o) () N) ∗ atPos ER (sendCell c t o) 0 ∅ 0)
def back (c : Dev nD) (t : Fin 2) (o : Fin 4) : sProp 𝕄 := iprop(atPos ER (sendCell c t o) (0 + 1) ∅ 0 ∗ sendPay WQ WO c t o)

variable (K : Dev nD × Fin 17 → ℕ)

theorem recv_turn (c : Dev nD) (t : Fin 2) (o : Fin 4) (ho : o ≠ 0) {r : DmaSem sig} (hr : r = rS t o)
    {sh : Shape} {e : EltTy} {src dst : Memref sig .tc .vmem sh e} (hN : dst.view.dmaCredit = N)
    {hs : src.view.WordExact} {hd : dst.view.WordExact}
    {α : Type} {Q : α → sProp 𝕄} {k : PUnit → Prog (TpuEff nD τ sig (Elt F) Λ₀ .tc) α} :
    iprop(records WQ WO K ∗ idle (F := F) c ∗ pend (F := F) c t o)
      ⊢ iprop(((idle (F := F) c ∗ got WQ WO c t o) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hs hd) k) Q) := by
  unfold idle pend got
  iintro ⟨#HR, ⟨%W, HO⟩, Hc, Hat⟩
  iintro Hk
  iapply (recv_step WQ WO K c t o ho hr hN W) $$ [HO Hc Hat]
  · isplitr; · iexact HR
    isplitl [Hc]; · iexact Hc
    isplitl [HO]; · iexact HO
    iexact Hat
  iintro ⟨HO, Hat, Hp⟩
  iapply Hk
  isplitl [HO]; · iexists _; iexact HO
  isplitl [Hat]; · iexact Hat
  iexact Hp
theorem back_turn (c : Dev nD) (t : Fin 2) (o : Fin 4) (ho : o ≠ 0) {r : DmaSem sig} (hr : r = sS t o)
    {sh : Shape} {e : EltTy} {src dst : Memref sig .tc .vmem sh e} (hN : dst.view.dmaCredit = N)
    {hs : src.view.WordExact} {hd : dst.view.WordExact}
    {α : Type} {Q : α → sProp 𝕄} {k : PUnit → Prog (TpuEff nD τ sig (Elt F) Λ₀ .tc) α} :
    iprop(records WQ WO K ∗ idle (F := F) c ∗ away (F := F) c t o)
      ⊢ iprop(((idle (F := F) c ∗ back WQ WO c t o) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hs hd) k) Q) := by
  unfold idle away back
  iintro ⟨#HR, ⟨%W, HO⟩, Hc, Hat⟩
  iintro Hk
  iapply (back_step WQ WO K c t o ho hr hN W) $$ [HO Hc Hat]
  · isplitr; · iexact HR
    isplitl [Hc]; · iexact Hc
    isplitl [HO]; · iexact HO
    iexact Hat
  iintro ⟨HO, Hat, Hp⟩
  iapply Hk
  isplitl [HO]; · iexists _; iexact HO
  isplitl [Hat]; · iexact Hat
  iexact Hp

end Turn

variable (I : In F) (K : Dev nD × Fin 17 → ℕ)

/-- The result buffer with the two batch entries at the given numbers of blocks. -/
def outAt (c : Dev nD) (m n : ℕ) : sProp 𝕄 := iprop(oM.view.loc (c : Thread nD τ) ↦{fullShare} pair (accV I c 0 m) (accV I c 1 n))

/-- The copy of `x`, and the words of the mask. -/
theorem step5 (c : Dev nD) {Q : _ → sProp 𝕄} :
    iprop((xM.view.loc (c : Thread nD τ) ↦{fullShare} I.X) ∗ (∃ g, xbM.view.loc (c : Thread nD τ) ↦{fullShare} g) ∗ (((xM.view.loc (c : Thread nD τ) ↦{fullShare} I.X) ∗ (xbM.view.loc (c : Thread nD τ) ↦{fullShare} I.X)) -∗ Q ⟨k0_pay3, iota .tc S256x256 32 [1] iota_S256x256_d1_w32, 64#32, k0_pay4, k0_pay5⟩))
      ⊢ wp frame (wpE (defs₀ (F := F)) 𝒱₀ (c : Thread nD τ) none) Set.univ (k0_part5 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 ) Q := by
  rw [k0_part5_eq_skeleton]; unfold k0_part5_skel
  simp only [Prog.lift, Prog.bind_op, Prog.bind_ret, Prog.pure_eq_ret]
  iintro ⟨Hx, ⟨%g, HX⟩, HQ⟩
  iapply (load_s0 c) $$ Hx; iintro Hx
  iapply (load_x0 c) $$ HX; iintro HX
  iapply (store_x0 c) $$ HX; iintro HX
  iapply (load_s1 c) $$ Hx; iintro Hx
  iapply (load_x1 c) $$ HX; iintro HX
  iapply (store_x1 c) $$ HX; iintro HX
  rw [entry_pair0, copy0, copy1, pair_entry]
  iapply (wp_done c (a := ⟨k0_pay3, iota .tc S256x256 32 [1] iota_S256x256_d1_w32, 64#32, k0_pay4, k0_pay5⟩) (by rfl))
  iapply HQ
  isplitl [Hx]; · iexact Hx
  iexact HX

/-- The first queries. -/
theorem step6 (c : Dev nD) (v2 : BitVec 32) {Q : _ → sProp 𝕄} :
    iprop(KVX I.K I.V I.X c ∗ sendPay I.WQ I.WO c 0 0 ∗ ((KVX I.K I.V I.X c ∗ sendPay I.WQ I.WO c 0 0) -∗ ∀ v195, Q ⟨maskV, v195, I.WQ (fwd c 0), qV I c 0 0⟩))
      ⊢ wp frame (wpE (defs₀ (F := F)) 𝒱₀ (c : Thread nD τ) none) Set.univ (k0_part6 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 v2 k0_pay3 (iota .tc S256x256 32 [1] iota_S256x256_d1_w32) 64#32 k0_pay4 k0_pay5) Q := by
  rw [k0_part6_eq_skeleton]; unfold k0_part6_skel KVX
  simp only [Prog.lift, Prog.bind_op, Prog.bind_ret, Prog.pure_eq_ret]
  iintro ⟨⟨HK, HV, HX⟩, HW, HQ⟩
  iapply (load_wq I.WQ I.WO c) $$ HW; iintro HW
  iapply (load_x0 c) $$ HX; iintro HX
  rw [pay7_eq, pay8_eq]
  iapply (wp_done c (a := ⟨maskV, _, I.WQ c, qOf (I.WQ c) (entry I.X 0)⟩) (by rfl))
  ispecialize HQ $$ [HK HV HX HW]
  · isplitl [HK HV HX]
    · isplitl [HK]; · iexact HK
      isplitl [HV]; · iexact HV
      iexact HX
    iexact HW
  rw [show qV I c 0 0 = qOf (I.WQ c) (entry I.X 0) by unfold qV; rw [fwd_zero], fwd_zero]
  iapply HQ

/-- The last heads of the own block, and the first contribution. -/
theorem step11 (c : Dev nD) (v195 : BitVec 32) {Q : _ → sProp 𝕄} :
    iprop(KVX I.K I.V I.X c ∗ sendPay I.WQ I.WO c 1 0 ∗ (∃ g, oM.view.loc (c : Thread nD τ) ↦{fullShare} g) ∗ ((KVX I.K I.V I.X c ∗ sendPay I.WQ I.WO c 1 0 ∗ (∃ g, oM.view.loc (c : Thread nD τ) ↦{fullShare} g)) -∗ Q ⟨cV I c 0 1 2, cV I c 0 1 3, I.WO (fwd c 0), put (nV I c 0 0)⟩))
      ⊢ wp frame (wpE (defs₀ (F := F)) 𝒱₀ (c : Thread nD τ) none) Set.univ (k0_part11 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v195 (cV I c 0 0 0) (cV I c 0 0 1) (cV I c 0 0 2) (cV I c 0 0 3) (qV I c 0 1) (k0_pay21 maskV (qV I c 0 1) (ldK I.K c 0 1 2) (ldV I.V c 0 1 2)) (k0_pay22 maskV (qV I c 0 1) (ldK I.K c 0 1 2))) Q := by
  rw [k0_part11_eq_skeleton]; unfold k0_part11_skel KVX
  simp only [Prog.lift, Prog.bind_op, Prog.bind_ret, Prog.pure_eq_ret]
  iintro ⟨⟨HK, HV, HX⟩, HW, ⟨%g, Ho⟩, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (load_wo I.WQ I.WO c) $$ HW; iintro HW
  iapply (load_o0 c) $$ Ho; iintro Ho
  rw [pay25_eq, pay26_eq (I.WO c) (cV I c 0 0)]
  iapply (wp_done c (a := ⟨cV I c 0 1 2, cV I c 0 1 3, I.WO c, put (contrib (cV I c 0 0) (I.WO c))⟩) (by rfl))
  rw [show nV I c 0 0 = contrib (cV I c 0 0) (I.WO c) by unfold nV; rw [fwd_zero], fwd_zero]
  iapply HQ
  isplitl [HK HV HX]
  · isplitl [HK]; · iexact HK
    isplitl [HV]; · iexact HV
    iexact HX
  isplitl [HW]; · iexact HW
  iexists g; iexact Ho

/-- The first contributions stored; the second block of `Wq` has arrived. -/
theorem step12 (c : Dev nD) (v2 : BitVec 32) {Q : _ → sProp 𝕄} :
    iprop(records I.WQ I.WO K ∗ (∃ g, oM.view.loc (c : Thread nD τ) ↦{fullShare} g) ∗ idle (F := F) c ∗ pend (F := F) c 0 3 ∗ ((outAt I c 0 0 ∗ idle (F := F) c ∗ got I.WQ I.WO c 0 3) -∗ ∀ v418, Q v418))
      ⊢ wp frame (wpE (defs₀ (F := F)) 𝒱₀ (c : Thread nD τ) none) Set.univ (k0_part12 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v2 (cV I c 0 1 0) (cV I c 0 1 1) (cV I c 0 1 2) (cV I c 0 1 3) (I.WO (fwd c 0)) (put (nV I c 0 0))) Q := by
  rw [k0_part12_eq_skeleton]; unfold k0_part12_skel
  simp only [Prog.lift, Prog.bind_op, Prog.bind_ret, Prog.pure_eq_ret]
  iintro ⟨#HR, ⟨%g, Ho⟩, Hid, Hp, HQ⟩
  iapply (store_o0 c) $$ Ho; iintro Ho
  iapply (load_o1 c) $$ Ho; iintro Ho
  iapply (store_o1 c) $$ Ho; iintro Ho
  iapply (recv_turn I.WQ I.WO K c 0 3 (by decide) (by rfl) (by rfl)) $$ [Hid Hp]
  · isplitr; · iexact HR
    isplitl [Hid]; · iexact Hid
    iexact Hp
  iintro ⟨Hid, Hg⟩
  iapply (wp_done c (a := _) (by rfl))
  ispecialize HQ $$ [Ho Hid Hg]
  · isplitl [Ho]
    · unfold outAt; rw [entry_pair0, pay27_eq (I.WO (fwd c 0)) (cV I c 0 1)]; iexact Ho
    isplitl [Hid]; · iexact Hid
    iexact Hg
  iapply HQ

/-- The queries of the second block. -/
theorem step13 (c : Dev nD) (v418 : BitVec 32) {Q : _ → sProp 𝕄} :
    iprop(KVX I.K I.V I.X c ∗ got I.WQ I.WO c 0 3 ∗ ((KVX I.K I.V I.X c ∗ got I.WQ I.WO c 0 3) -∗ Q ⟨I.WQ (fwd c 1), qV I c 1 0, cV I c 1 0 0, Scalar.addi (Scalar.muli v418 4#32) 1#32, headQ 1 (qV I c 1 0), k0_pay32 (ldK I.K c 1 0 1)⟩))
      ⊢ wp frame (wpE (defs₀ (F := F)) 𝒱₀ (c : Thread nD τ) none) Set.univ (k0_part13 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v418) Q := by
  rw [k0_part13_eq_skeleton]; unfold k0_part13_skel KVX got
  simp only [Prog.lift, Prog.bind_op, Prog.bind_ret, Prog.pure_eq_ret]
  iintro ⟨⟨HK, HV, HX⟩, ⟨Hat, Hp⟩, HQ⟩
  iapply (load_slotQ I.WQ I.WO c 0 3 (by decide)) $$ Hp; iintro Hp
  iapply (load_x0 c) $$ HX; iintro HX
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := kM) (Finset.subset_univ _)) $$ HK; iintro HK
  rw [show (0 : Fin 3).succ = 1 from rfl]
  simp only [pay28_eq, pay29_eq, pay30_eq, pay31_eq]
  iapply (wp_done c (a := ⟨I.WQ (fwd c 1), qV I c 1 0, cV I c 1 0 0, Scalar.addi (Scalar.muli v418 4#32) 1#32, headQ 1 (qV I c 1 0), k0_pay32 (ldK I.K c 1 0 1)⟩) (by rfl))
  iapply HQ
  isplitl [HK HV HX]
  · isplitl [HK]; · iexact HK
    isplitl [HV]; · iexact HV
    iexact HX
  isplitl [Hat]; · iexact Hat
  iexact Hp

/-- The second block of `Wo` has arrived; the second contribution of the first batch entry. -/
theorem step18 (c : Dev nD) (v418 : BitVec 32) {Q : _ → sProp 𝕄} :
    iprop(records I.WQ I.WO K ∗ outAt I c 0 0 ∗ idle (F := F) c ∗ pend (F := F) c 1 3 ∗ ((outAt I c 1 0 ∗ idle (F := F) c ∗ got I.WQ I.WO c 1 3) -∗ Q (nV I c 1 1)))
      ⊢ wp frame (wpE (defs₀ (F := F)) 𝒱₀ (c : Thread nD τ) none) Set.univ (k0_part18 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v418 (cV I c 1 0 0) (cV I c 1 0 1) (cV I c 1 0 2) (cV I c 1 0 3) (cV I c 1 1 0) (cV I c 1 1 1) (cV I c 1 1 2) (cV I c 1 1 3)) Q := by
  rw [k0_part18_eq_skeleton]; unfold k0_part18_skel
  simp only [Prog.lift, Prog.bind_op, Prog.bind_ret, Prog.pure_eq_ret]
  iintro ⟨#HR, Ho, Hid, Hp, HQ⟩
  iapply (recv_turn I.WQ I.WO K c 1 3 (by decide) (by rfl) (by rfl)) $$ [Hid Hp]
  · isplitr; · iexact HR
    isplitl [Hid]; · iexact Hid
    iexact Hp
  iintro ⟨Hid, Hg⟩
  unfold got outAt
  icases Hg with ⟨Hat, Hp⟩
  iapply (load_slotO I.WQ I.WO c 0 3 (by decide)) $$ Hp; iintro Hp
  iapply (load_o0 c) $$ Ho; iintro Ho
  iapply (load_o0 c) $$ Ho; iintro Ho
  iapply (store_o0 c) $$ Ho; iintro Ho
  rw [entry_pair0, entry_pair1, show (0 : Fin 3).succ = 1 from rfl, pay47_eq (I.WO (fwd c 1)) _ (cV I c 1 0), pay48_eq (I.WO (fwd c 1)) (cV I c 1 1)]
  iapply (wp_done c (a := (nV I c 1 1)) (by rfl))
  iapply HQ
  isplitl [Ho]; · iexact Ho
  isplitl [Hid]; · iexact Hid
  isplitl [Hat]; · iexact Hat
  iexact Hp

/-- The second contribution of the other entry; the third block of `Wq`. -/
theorem step19 (c : Dev nD) (v2 : BitVec 32) {Q : _ → sProp 𝕄} :
    iprop(records I.WQ I.WO K ∗ KVX I.K I.V I.X c ∗ outAt I c 1 0 ∗ idle (F := F) c ∗ pend (F := F) c 0 2 ∗ ((KVX I.K I.V I.X c ∗ outAt I c 1 1 ∗ idle (F := F) c ∗ got I.WQ I.WO c 0 2) -∗ ∀ v665, Q ⟨v665, I.WQ (fwd c 2), qPre I c 2 0⟩))
      ⊢ wp frame (wpE (defs₀ (F := F)) 𝒱₀ (c : Thread nD τ) none) Set.univ (k0_part19 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v2 (nV I c 1 1)) Q := by
  rw [k0_part19_eq_skeleton]; unfold k0_part19_skel KVX
  simp only [Prog.lift, Prog.bind_op, Prog.bind_ret, Prog.pure_eq_ret]
  unfold outAt
  iintro ⟨#HR, ⟨HK, HV, HX⟩, Ho, Hid, Hp, HQ⟩
  iapply (load_o1 c) $$ Ho; iintro Ho
  iapply (load_o1 c) $$ Ho; iintro Ho
  iapply (store_o1 c) $$ Ho; iintro Ho
  iapply (recv_turn I.WQ I.WO K c 0 2 (by decide) (by rfl) (by rfl)) $$ [Hid Hp]
  · isplitr; · iexact HR
    isplitl [Hid]; · iexact Hid
    iexact Hp
  iintro ⟨Hid, Hg⟩
  unfold got
  icases Hg with ⟨Hat, Hp⟩
  iapply (load_slotQ I.WQ I.WO c 1 2 (by decide)) $$ Hp; iintro Hp
  iapply (load_x0 c) $$ HX; iintro HX
  rw [show (1 : Fin 3).succ = 2 from rfl, pay50_eq, pay51_eq, entry_pair0, entry_pair1, pay49_eq]
  iapply (wp_done c (a := ⟨_, I.WQ (fwd c 2), qPre I c 2 0⟩) (by rfl))
  ispecialize HQ $$ [HK HV HX Ho Hid Hat Hp]
  · isplitl [HK HV HX]
    · isplitl [HK]; · iexact HK
      isplitl [HV]; · iexact HV
      iexact HX
    isplitl [Ho]; · iexact Ho
    isplitl [Hid]; · iexact Hid
    isplitl [Hat]; · iexact Hat
    iexact Hp
  iapply HQ

/-- The last heads of the third block; its `Wo` has arrived. -/
theorem step24 (c : Dev nD) (v665 : BitVec 32) {Q : _ → sProp 𝕄} :
    iprop(records I.WQ I.WO K ∗ KVX I.K I.V I.X c ∗ idle (F := F) c ∗ pend (F := F) c 1 2 ∗ ((KVX I.K I.V I.X c ∗ idle (F := F) c ∗ got I.WQ I.WO c 1 2) -∗ Q ⟨cV I c 2 1 2, cV I c 2 1 3⟩))
      ⊢ wp frame (wpE (defs₀ (F := F)) 𝒱₀ (c : Thread nD τ) none) Set.univ (k0_part24 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v665 (qV I c 2 1) (k0_pay63 maskV (qV I c 2 1) (ldK I.K c 2 1 2)) (k0_pay64 maskV (qV I c 2 1) (ldK I.K c 2 1 2)) ((ldV I.V c 2 1 2))) Q := by
  rw [k0_part24_eq_skeleton]; unfold k0_part24_skel KVX
  simp only [Prog.lift, Prog.bind_op, Prog.bind_ret, Prog.pure_eq_ret]
  iintro ⟨#HR, ⟨HK, HV, HX⟩, Hid, Hp, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (recv_turn I.WQ I.WO K c 1 2 (by decide) (by rfl) (by rfl)) $$ [Hid Hp]
  · isplitr; · iexact HR
    isplitl [Hid]; · iexact Hid
    iexact Hp
  iintro ⟨Hid, Hg⟩
  iapply (wp_done c (a := ⟨cV I c 2 1 2, cV I c 2 1 3⟩) (by rfl))
  iapply HQ
  isplitl [HK HV HX]
  · isplitl [HK]; · iexact HK
    isplitl [HV]; · iexact HV
    iexact HX
  isplitl [Hid]; · iexact Hid
  iexact Hg

/-- The third contributions. -/
theorem step25 (c : Dev nD) {Q : _ → sProp 𝕄} :
    iprop(outAt I c 1 1 ∗ got I.WQ I.WO c 1 2 ∗ ((outAt I c 2 2 ∗ got I.WQ I.WO c 1 2) -∗ Q 3#32))
      ⊢ wp frame (wpE (defs₀ (F := F)) 𝒱₀ (c : Thread nD τ) none) Set.univ (k0_part25 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c (cV I c 2 0 0) (cV I c 2 0 1) (cV I c 2 0 2) (cV I c 2 0 3) (cV I c 2 1 0) (cV I c 2 1 1) (cV I c 2 1 2) (cV I c 2 1 3)) Q := by
  rw [k0_part25_eq_skeleton]; unfold k0_part25_skel got outAt
  simp only [Prog.lift, Prog.bind_op, Prog.bind_ret, Prog.pure_eq_ret]
  iintro ⟨Ho, ⟨Hat, Hp⟩, HQ⟩
  iapply (load_slotO I.WQ I.WO c 1 2 (by decide)) $$ Hp; iintro Hp
  iapply (load_o0 c) $$ Ho; iintro Ho
  iapply (load_o0 c) $$ Ho; iintro Ho
  iapply (store_o0 c) $$ Ho; iintro Ho
  iapply (load_o1 c) $$ Ho; iintro Ho
  iapply (load_o1 c) $$ Ho; iintro Ho
  iapply (store_o1 c) $$ Ho; iintro Ho
  rw [show (1 : Fin 3).succ = 2 from rfl]
  simp only [entry_pair0, entry_pair1]
  rw [pay68_eq (I.WO (fwd c 2)) _ (cV I c 2 0), pay69_eq (I.WO (fwd c 2)) _ (cV I c 2 1)]
  iapply (wp_done c (a := 3#32) (by rfl))
  iapply HQ
  isplitl [Ho]; · iexact Ho
  isplitl [Hat]; · iexact Hat
  iexact Hp

/-- The fourth block of `Wq`. -/
theorem step26 (c : Dev nD) (v2 c3_i32_564 : BitVec 32) {Q : _ → sProp 𝕄} :
    iprop(records I.WQ I.WO K ∗ KVX I.K I.V I.X c ∗ idle (F := F) c ∗ pend (F := F) c 0 1 ∗ ((KVX I.K I.V I.X c ∗ idle (F := F) c ∗ got I.WQ I.WO c 0 1) -∗ ∀ v912, ∀ v931, Q ⟨v912, I.WQ (fwd c 3), qV I c 3 0, v931, headQ 0 (qV I c 3 0)⟩))
      ⊢ wp frame (wpE (defs₀ (F := F)) 𝒱₀ (c : Thread nD τ) none) Set.univ (k0_part26 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c v2 c3_i32_564) Q := by
  rw [k0_part26_eq_skeleton]; unfold k0_part26_skel KVX
  simp only [Prog.lift, Prog.bind_op, Prog.bind_ret, Prog.pure_eq_ret]
  iintro ⟨#HR, ⟨HK, HV, HX⟩, Hid, Hp, HQ⟩
  iapply (recv_turn I.WQ I.WO K c 0 1 (by decide) (by rfl) (by rfl)) $$ [Hid Hp]
  · isplitr; · iexact HR
    isplitl [Hid]; · iexact Hid
    iexact Hp
  iintro ⟨Hid, Hg⟩
  unfold got
  icases Hg with ⟨Hat, Hp⟩
  iapply (load_slotQ I.WQ I.WO c 2 1 (by decide)) $$ Hp; iintro Hp
  iapply (load_x0 c) $$ HX; iintro HX
  rw [show (2 : Fin 3).succ = 3 from rfl, pay70_eq, pay71_eq, pay72_eq]
  iapply (wp_done c (a := ⟨_, I.WQ (fwd c 3), qV I c 3 0, _, headQ 0 (qV I c 3 0)⟩) (by rfl))
  ispecialize HQ $$ [HK HV HX Hid Hat Hp]
  · isplitl [HK HV HX]
    · isplitl [HK]; · iexact HK
      isplitl [HV]; · iexact HV
      iexact HX
    isplitl [Hid]; · iexact Hid
    isplitl [Hat]; · iexact Hat
    iexact Hp
  iapply HQ

/-- The last head; the fourth block of `Wo` and three of its products. -/
theorem step31 (c : Dev nD) (v912 v1084 : BitVec 32) {Q : _ → sProp 𝕄} :
    iprop(records I.WQ I.WO K ∗ KVX I.K I.V I.X c ∗ idle (F := F) c ∗ pend (F := F) c 1 1 ∗ ((KVX I.K I.V I.X c ∗ idle (F := F) c ∗ got I.WQ I.WO c 1 1) -∗ Q ⟨cV I c 3 1 3, I.WO (fwd c 3), headOut 0 (cV I c 3 0 0) (I.WO (fwd c 3)), headOut 1 (cV I c 3 0 1) (I.WO (fwd c 3)), headOut 2 (cV I c 3 0 2) (I.WO (fwd c 3))⟩))
      ⊢ wp frame (wpE (defs₀ (F := F)) 𝒱₀ (c : Thread nD τ) none) Set.univ (k0_part31 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c maskV v912 (cV I c 3 0 0) (cV I c 3 0 1) (cV I c 3 0 2) v1084 (k0_pay86 (qV I c 3 1))) Q := by
  rw [k0_part31_eq_skeleton]; unfold k0_part31_skel KVX
  simp only [Prog.lift, Prog.bind_op, Prog.bind_ret, Prog.pure_eq_ret]
  iintro ⟨#HR, ⟨HK, HV, HX⟩, Hid, Hp, HQ⟩
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (recv_turn I.WQ I.WO K c 1 1 (by decide) (by rfl) (by rfl)) $$ [Hid Hp]
  · isplitr; · iexact HR
    isplitl [Hid]; · iexact Hid
    iexact Hp
  iintro ⟨Hid, Hg⟩
  unfold got
  icases Hg with ⟨Hat, Hp⟩
  iapply (load_slotO I.WQ I.WO c 2 1 (by decide)) $$ Hp; iintro Hp
  rw [show (2 : Fin 3).succ = 3 from rfl, pay88_eq, pay89_eq, pay90_eq, pay91_eq]
  iapply (wp_done c (a := ⟨cV I c 3 1 3, I.WO (fwd c 3), headOut 0 (cV I c 3 0 0) (I.WO (fwd c 3)), headOut 1 (cV I c 3 0 1) (I.WO (fwd c 3)), headOut 2 (cV I c 3 0 2) (I.WO (fwd c 3))⟩) (by rfl))
  iapply HQ
  isplitl [HK HV HX]
  · isplitl [HK]; · iexact HK
    isplitl [HV]; · iexact HV
    iexact HX
  isplitl [Hid]; · iexact Hid
  isplitl [Hat]; · iexact Hat
  iexact Hp

/-- The fourth contributions; the first lent share comes back. -/
theorem step32 (c : Dev nD) {Q : _ → sProp 𝕄} :
    iprop(records I.WQ I.WO K ∗ outAt I c 2 2 ∗ idle (F := F) c ∗ away (F := F) c 0 3 ∗ ((outAt I c 3 3 ∗ idle (F := F) c ∗ back I.WQ I.WO c 0 3) -∗ Q ⟨⟩))
      ⊢ wp frame (wpE (defs₀ (F := F)) 𝒱₀ (c : Thread nD τ) none) Set.univ (k0_part32 xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4 c (cV I c 3 0 3) (cV I c 3 1 0) (cV I c 3 1 1) (cV I c 3 1 2) (cV I c 3 1 3) (I.WO (fwd c 3)) (headOut 0 (cV I c 3 0 0) (I.WO (fwd c 3))) (headOut 1 (cV I c 3 0 1) (I.WO (fwd c 3))) (headOut 2 (cV I c 3 0 2) (I.WO (fwd c 3)))) Q := by
  rw [k0_part32_eq_skeleton]; unfold k0_part32_skel outAt
  simp only [Prog.lift, Prog.bind_op, Prog.bind_ret, Prog.pure_eq_ret]
  iintro ⟨#HR, Ho, Hid, Hp, HQ⟩
  iapply (load_o0 c) $$ Ho; iintro Ho
  iapply (load_o0 c) $$ Ho; iintro Ho
  iapply (store_o0 c) $$ Ho; iintro Ho
  iapply (load_o1 c) $$ Ho; iintro Ho
  iapply (load_o1 c) $$ Ho; iintro Ho
  iapply (store_o1 c) $$ Ho; iintro Ho
  simp only [entry_pair0, entry_pair1]
  rw [pay92_eq (I.WO (fwd c 3)) _ (cV I c 3 0), pay93_eq (I.WO (fwd c 3)) _ (cV I c 3 1)]
  iapply (back_turn I.WQ I.WO K c 0 3 (by decide) (by rfl) (by rfl)) $$ [Hid Hp]
  · isplitr; · iexact HR
    isplitl [Hid]; · iexact Hid
    iexact Hp
  iintro ⟨Hid, Hg⟩
  iapply (wp_done c (a := ⟨⟩) (by rfl))
  iapply HQ
  isplitl [Ho]; · iexact Ho
  isplitl [Hid]; · iexact Hid
  iexact Hg

end Cert.BlockAttn
-- ==== Proof.Body.lean ====
/-
The whole body on a device, from what it holds when it starts to what it holds when it ends: the parts in program order.
-/
module

public import proofs.«01_k».proof.Proof.Turn

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × Fin 17 → ℕ)

/-- A family over the six transfers, block and distance. -/
def six (f : Fin 2 → Fin 4 → sProp 𝕄) : sProp 𝕄 := iprop(f 0 3 ∗ f 1 3 ∗ f 0 2 ∗ f 1 2 ∗ f 0 1 ∗ f 1 1)

/-- What a device holds of its arguments: the blocks of `x`, `K`, `V` whole, of `Wq` and `Wo` the share it keeps. -/
def args (c : Dev nD) : sProp 𝕄 :=
  iprop((xM.view.loc (c : Thread nD τ) ↦{fullShare} I.X) ∗ (kM.view.loc (c : Thread nD τ) ↦{fullShare} I.K) ∗ (vM.view.loc (c : Thread nD τ) ↦{fullShare} I.V)
    ∗ sendPay I.WQ I.WO c 0 0 ∗ sendPay I.WQ I.WO c 1 0)

/-- What a device starts the body with. -/
def start (c : Dev nD) (W : Waits sig Unit) : sProp 𝕄 :=
  iprop(owes (c : Thread nD τ) (O₀ c) W ∗ (sigRes (F := F) c 1 ∗ sigRes (F := F) c 2 ∗ sigRes (F := F) c 3)
    ∗ cred (tallyAt (barCell c) () 3) ∗ atPos ER (barCell c) 0 ∅ 0
    ∗ six (fun t o => sendRes I.WQ I.WO c t o) ∗ six (F := F) (fun t o => atPos ER (sendCell c t o) 0 ∅ 0) ∗ six (F := F) (fun t o => pend (F := F) c t o)
    ∗ args I c ∗ (∃ g, xbM.view.loc (c : Thread nD τ) ↦{fullShare} g) ∗ (∃ g, oM.view.loc (c : Thread nD τ) ↦{fullShare} g))
/-- What it ends the body with. -/
def done (c : Dev nD) : sProp 𝕄 :=
  iprop(idle (F := F) c ∗ atPos ER (barCell c) (0 + 1) ∅ 0 ∗ six (fun t o => got I.WQ I.WO c t o) ∗ six (fun t o => back I.WQ I.WO c t o)
    ∗ args I c ∗ (xbM.view.loc (c : Thread nD τ) ↦{fullShare} I.X) ∗ (oM.view.loc (c : Thread nD τ) ↦{fullShare} outV I c))

set_option maxHeartbeats 1600000 in
theorem body_run (c : Dev nD) (W : Waits sig Unit) {Q : PUnit → sProp 𝕄} :
    iprop(records I.WQ I.WO K ∗ levAts L lv ∗ start I c W ∗ (done I c -∗ Q ⟨⟩))
      ⊢ wp frame (wpE (defs₀ (F := F)) 𝒱₀ (c : Thread nD τ) none) Set.univ (cc0_body xM (Memref.isWhole_whole _) wqM (Memref.isWhole_whole _) kM (Memref.isWhole_whole _) vM (Memref.isWhole_whole _) woM (Memref.isWhole_whole _) oM (Memref.isWhole_whole _) gqM (Memref.isWhole_whole _) goM (Memref.isWhole_whole _) xbM (Memref.isWhole_whole _) cc0_scratch3 cc0_scratch4) Q := by
  rw [cc0_body_eq_skeleton]; unfold cc0_body_skel
  rw [k0_part33_eq_skeleton]; unfold k0_part33_skel
  simp only [Prog.lift, Prog.bind_op, Prog.bind_ret, Prog.pure_eq_ret, Prog.bind_assoc]
  unfold start six args
  iintro ⟨#HR, #Hlev, ⟨HO, ⟨Hg1, Hg2, Hg3⟩, Hcb, Hab, ⟨Hs03, Hs13, Hs02, Hs12, Hs01, Hs11⟩, ⟨Ha03, Ha13, Ha02, Ha12, Ha01, Ha11⟩, ⟨Hp03, Hp13, Hp02, Hp12, Hp01, Hp11⟩, ⟨Hx, HK, HV, Hwq, Hwo⟩, HX, Ho⟩, Hend⟩
  -- part 1
  rw [wp_bind]
  iapply (step1 I.WQ I.WO K c W)
  isplitr; · iexact HR
  isplitl [HO]; · iexact HO
  isplitl [Hg1]; · iexact Hg1
  isplitl [Hg2]; · iexact Hg2
  iintro HO %v2 %v30 %v31
  try dsimp only
  -- part 2
  rw [wp_bind]
  iapply (step2 I.WQ I.WO K c W _ _ _)
  isplitr; · iexact HR
  isplitr; · iexact Hlev
  isplitl [HO]; · iexact HO
  isplitl [Hg3]; · iexact Hg3
  isplitl [Hcb]; · iexact Hcb
  isplitl [Hab]; · iexact Hab
  isplitl [Hs03]; · iexact Hs03
  iintro %W' ⟨HO, Hab, Hc03, ⟨Hq1, Ho1⟩, ⟨Hq2, Ho2⟩, Ho3⟩ %v53
  try dsimp only
  -- part 3
  rw [wp_bind]
  iapply (step3 I.WQ I.WO K c _ _ _)
  isplitr; · iexact HR
  isplitl [HO]; · iexact HO
  isplitl [Hs13]; · iexact Hs13
  isplitl [Hs02]; · iexact Hs02
  isplitl [Ho3]; · iexact Ho3
  isplitl [Hq2]; · iexact Hq2
  iintro ⟨HO, Hc13, Hc02⟩
  try dsimp only
  -- part 4
  rw [wp_bind]
  iapply (step4 I.WQ I.WO K c _ _)
  isplitr; · iexact HR
  isplitl [HO]; · iexact HO
  isplitl [Hs12]; · iexact Hs12
  isplitl [Hs01]; · iexact Hs01
  isplitl [Hs11]; · iexact Hs11
  isplitl [Ho2]; · iexact Ho2
  isplitl [Hq1]; · iexact Hq1
  isplitl [Ho1]; · iexact Ho1
  iintro ⟨HO, Hc12, Hc01, Hc11⟩
  try dsimp only
  ihave Hid : idle (F := F) c $$ [HO]
  · unfold idle; iexists W'; iexact HO
  -- part 5
  rw [wp_bind]
  iapply (step5 I c)
  isplitl [Hx]; · iexact Hx
  isplitl [HX]; · iexact HX
  iintro ⟨Hx, HX⟩
  try dsimp only
  ihave Hm : KVX I.K I.V I.X c $$ [HK HV HX]
  · unfold KVX; isplitl [HK]; · iexact HK
    isplitl [HV]; · iexact HV
    iexact HX
  -- part 6
  rw [wp_bind]
  iapply (step6 I c _)
  isplitl [Hm]; · iexact Hm
  isplitl [Hwq]; · iexact Hwq
  iintro ⟨Hm, Hwq⟩ %v195
  try dsimp only
  -- part 7
  rw [wp_bind]
  iapply (step7 I c _)
  isplitl [Hm]; · iexact Hm
  iintro Hm
  try dsimp only
  -- part 8
  rw [wp_bind]
  iapply (step8 I c _)
  isplitl [Hm]; · iexact Hm
  iintro Hm
  try dsimp only
  -- part 9
  rw [wp_bind]
  iapply (step9 I c _ _)
  isplitl [Hm]; · iexact Hm
  iintro Hm
  try dsimp only
  -- part 10
  rw [wp_bind]
  iapply (step10 I c _ _)
  isplitl [Hm]; · iexact Hm
  iintro Hm
  try dsimp only
  -- part 11
  rw [wp_bind]
  iapply (step11 I c _)
  isplitl [Hm]; · iexact Hm
  isplitl [Hwo]; · iexact Hwo
  isplitl [Ho]; · iexact Ho
  iintro ⟨Hm, Hwo, Ho⟩
  try dsimp only
  -- part 12
  rw [wp_bind]
  iapply (step12 I K c _)
  isplitr; · iexact HR
  isplitl [Ho]; · iexact Ho
  isplitl [Hid]; · iexact Hid
  isplitl [Hp03]; · iexact Hp03
  iintro ⟨Ho, Hid, Hp03⟩ %v418
  try dsimp only
  -- part 13
  rw [wp_bind]
  iapply (step13 I c _)
  isplitl [Hm]; · iexact Hm
  isplitl [Hp03]; · iexact Hp03
  iintro ⟨Hm, Hp03⟩
  try dsimp only
  -- part 14
  rw [wp_bind]
  iapply (step14 I c _ _)
  isplitl [Hm]; · iexact Hm
  iintro Hm
  try dsimp only
  -- part 15
  rw [wp_bind]
  iapply (step15 I c _ _)
  isplitl [Hm]; · iexact Hm
  iintro Hm
  try dsimp only
  -- part 16
  rw [wp_bind]
  iapply (step16 I c _ _)
  isplitl [Hm]; · iexact Hm
  iintro Hm
  try dsimp only
  -- part 17
  rw [wp_bind]
  iapply (step17 I c _ _)
  isplitl [Hm]; · iexact Hm
  iintro Hm
  try dsimp only
  -- part 18
  rw [wp_bind]
  iapply (step18 I K c _)
  isplitr; · iexact HR
  isplitl [Ho]; · iexact Ho
  isplitl [Hid]; · iexact Hid
  isplitl [Hp13]; · iexact Hp13
  iintro ⟨Ho, Hid, Hp13⟩
  try dsimp only
  -- part 19
  rw [wp_bind]
  iapply (step19 I K c _)
  isplitr; · iexact HR
  isplitl [Hm]; · iexact Hm
  isplitl [Ho]; · iexact Ho
  isplitl [Hid]; · iexact Hid
  isplitl [Hp02]; · iexact Hp02
  iintro ⟨Hm, Ho, Hid, Hp02⟩ %v665
  try dsimp only
  -- part 20
  rw [wp_bind]
  iapply (step20 I c _)
  isplitl [Hm]; · iexact Hm
  iintro Hm
  try dsimp only
  -- part 21
  rw [wp_bind]
  iapply (step21 I c _)
  isplitl [Hm]; · iexact Hm
  iintro Hm
  try dsimp only
  -- part 22
  rw [wp_bind]
  iapply (step22 I c _ _)
  isplitl [Hm]; · iexact Hm
  iintro Hm
  try dsimp only
  -- part 23
  rw [wp_bind]
  iapply (step23 I c _)
  isplitl [Hm]; · iexact Hm
  iintro Hm
  try dsimp only
  -- part 24
  rw [wp_bind]
  iapply (step24 I K c _)
  isplitr; · iexact HR
  isplitl [Hm]; · iexact Hm
  isplitl [Hid]; · iexact Hid
  isplitl [Hp12]; · iexact Hp12
  iintro ⟨Hm, Hid, Hp12⟩
  try dsimp only
  -- part 25
  rw [wp_bind]
  iapply (step25 I c)
  isplitl [Ho]; · iexact Ho
  isplitl [Hp12]; · iexact Hp12
  iintro ⟨Ho, Hp12⟩
  try dsimp only
  -- part 26
  rw [wp_bind]
  iapply (step26 I K c _ _)
  isplitr; · iexact HR
  isplitl [Hm]; · iexact Hm
  isplitl [Hid]; · iexact Hid
  isplitl [Hp01]; · iexact Hp01
  iintro ⟨Hm, Hid, Hp01⟩ %v912 %v931
  try dsimp only
  -- part 27
  rw [wp_bind]
  iapply (step27 I c _ _)
  isplitl [Hm]; · iexact Hm
  iintro Hm
  try dsimp only
  -- part 28
  rw [wp_bind]
  iapply (step28 I c _ _)
  isplitl [Hm]; · iexact Hm
  iintro Hm
  try dsimp only
  -- part 29
  rw [wp_bind]
  iapply (step29 I c _)
  isplitl [Hm]; · iexact Hm
  iintro Hm
  try dsimp only
  -- part 30
  rw [wp_bind]
  iapply (step30 I c _ _)
  isplitl [Hm]; · iexact Hm
  iintro Hm
  try dsimp only
  -- part 31
  rw [wp_bind]
  iapply (step31 I K c _ _)
  isplitr; · iexact HR
  isplitl [Hm]; · iexact Hm
  isplitl [Hid]; · iexact Hid
  isplitl [Hp11]; · iexact Hp11
  iintro ⟨Hm, Hid, Hp11⟩
  try dsimp only
  ihave Hw03 : away (F := F) c 0 3 $$ [Hc03 Ha03]
  · unfold away; isplitl [Hc03]; · iexact Hc03
    iexact Ha03
  ihave Hw13 : away (F := F) c 1 3 $$ [Hc13 Ha13]
  · unfold away; isplitl [Hc13]; · iexact Hc13
    iexact Ha13
  ihave Hw02 : away (F := F) c 0 2 $$ [Hc02 Ha02]
  · unfold away; isplitl [Hc02]; · iexact Hc02
    iexact Ha02
  ihave Hw12 : away (F := F) c 1 2 $$ [Hc12 Ha12]
  · unfold away; isplitl [Hc12]; · iexact Hc12
    iexact Ha12
  ihave Hw01 : away (F := F) c 0 1 $$ [Hc01 Ha01]
  · unfold away; isplitl [Hc01]; · iexact Hc01
    iexact Ha01
  ihave Hw11 : away (F := F) c 1 1 $$ [Hc11 Ha11]
  · unfold away; isplitl [Hc11]; · iexact Hc11
    iexact Ha11
  -- part 32
  rw [wp_bind]
  iapply (step32 I K c)
  isplitr; · iexact HR
  isplitl [Ho]; · iexact Ho
  isplitl [Hid]; · iexact Hid
  isplitl [Hw03]; · iexact Hw03
  iintro ⟨Ho, Hid, Hb03⟩
  try dsimp only
  iapply (back_turn I.WQ I.WO K c 1 3 (by decide) (by rfl) (by rfl)) $$ [Hid Hw13]
  · isplitr; · iexact HR
    isplitl [Hid]; · iexact Hid
    iexact Hw13
  iintro ⟨Hid, Hb13⟩
  iapply (back_turn I.WQ I.WO K c 0 2 (by decide) (by rfl) (by rfl)) $$ [Hid Hw02]
  · isplitr; · iexact HR
    isplitl [Hid]; · iexact Hid
    iexact Hw02
  iintro ⟨Hid, Hb02⟩
  iapply (back_turn I.WQ I.WO K c 1 2 (by decide) (by rfl) (by rfl)) $$ [Hid Hw12]
  · isplitr; · iexact HR
    isplitl [Hid]; · iexact Hid
    iexact Hw12
  iintro ⟨Hid, Hb12⟩
  iapply (back_turn I.WQ I.WO K c 0 1 (by decide) (by rfl) (by rfl)) $$ [Hid Hw01]
  · isplitr; · iexact HR
    isplitl [Hid]; · iexact Hid
    iexact Hw01
  iintro ⟨Hid, Hb01⟩
  iapply (back_turn I.WQ I.WO K c 1 1 (by decide) (by rfl) (by rfl)) $$ [Hid Hw11]
  · isplitr; · iexact HR
    isplitl [Hid]; · iexact Hid
    iexact Hw11
  iintro ⟨Hid, Hb11⟩
  rw [wp_ret]; imodintro
  iapply Hend
  unfold done six args KVX outAt outV
  icases Hm with ⟨HK, HV, HX⟩
  isplitl [Hid]; · iexact Hid
  isplitl [Hab]; · iexact Hab
  isplitl [Hp03 Hp13 Hp02 Hp12 Hp01 Hp11]
  · isplitl [Hp03]; · iexact Hp03
    isplitl [Hp13]; · iexact Hp13
    isplitl [Hp02]; · iexact Hp02
    isplitl [Hp12]; · iexact Hp12
    isplitl [Hp01]; · iexact Hp01
    iexact Hp11
  isplitl [Hb03 Hb13 Hb02 Hb12 Hb01 Hb11]
  · isplitl [Hb03]; · iexact Hb03
    isplitl [Hb13]; · iexact Hb13
    isplitl [Hb02]; · iexact Hb02
    isplitl [Hb12]; · iexact Hb12
    isplitl [Hb01]; · iexact Hb01
    iexact Hb11
  isplitl [Hx HK HV Hwq Hwo]
  · isplitl [Hx]; · iexact Hx
    isplitl [HK]; · iexact HK
    isplitl [HV]; · iexact HV
    isplitl [Hwq]; · iexact Hwq
    iexact Hwo
  isplitl [HX]; · iexact HX
  iexact Ho

end Cert.BlockAttn
-- ==== Proof.Open.lean ====
/-
The resources of a device in the shapes the body wants, and back: the gather buffers cut into slots, the weight blocks into the
shares that are lent, the tokens dealt to the steps that spend them; and at the end the slots and shares joined and every cell of
the device closed.
-/
module

public import proofs.«01_k».proof.Proof.Body
public import Idealize.ShloMosaic.Lib.Ring

@[expose] public section

noncomputable section

namespace Cert.BlockAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The slots -/

/-- The devices by their distance from `c`. -/
def around (c : Dev nD) : Fin 4 ≃ Dev nD where
  toFun := fwd c
  invFun := gap c
  left_inv o := gap_fwd c o
  right_inv j := by revert c j; decide

/-- Slot `j` of device `d` at any contents, alone. -/
def pieceQ (d j : Dev nD) : sProp 𝕄 := iprop(∃ f, (slotQ j).view.loc (d : Thread nD τ) ↦[(slotQ j).view.set]{fullShare} f)
abbrev setQ (j : Fin 4) : Finset S4x512x256.Idx := (slotQ j).view.set
theorem slotQ_disjoint (j j' : Fin 4) (h : j ≠ j') : Disjoint (setQ j) (setQ j') :=
  Finset.disjoint_left.mpr fun i hi hi' => h (Fin.ext (((mem_slotQ j i).mp hi).symm.trans ((mem_slotQ j' i).mp hi')))
theorem slotQ_cover : Finset.univ.biUnion setQ = Finset.univ := by
  ext i
  simp only [Finset.mem_biUnion, Finset.mem_univ, true_and, iff_true]
  exact ⟨i 0, (mem_slotQ _ i).mpr rfl⟩
/-- The gather buffer whole is its four slots, listed by the distance of the device they are for; -/
theorem cutQ (c : Dev nD) (f : Buf (Elt F) (gqM.view.loc (c : Thread nD τ))) : ((gqM.view.loc (c : Thread nD τ)) ↦{fullShare} f : sProp 𝕄)
    ⊢ iprop(pieceQ (F := F) c (fwd c 0) ∗ pieceQ (F := F) c (fwd c 1) ∗ pieceQ (F := F) c (fwd c 2) ∗ pieceQ (F := F) c (fwd c 3)) := by
  rw [Ring.pointsTo_blocks (ℓ := gqM.view.loc (c : Thread nD τ)) setQ slotQ_disjoint slotQ_cover f]
  have hp (j : Fin 4) : ((gqM.view.loc (c : Thread nD τ)) ↦[setQ j]{fullShare} f : sProp 𝕄) ⊢ pieceQ (F := F) c j := by
    unfold pieceQ; iintro H; iexists f; iexact H
  refine (bigSep_mono (Ψ := fun j : Fin 4 => pieceQ (F := F) c j) fun j _ => hp j).trans ?_
  rw [bigSep_univ_equiv (around c) (fun j : Fin 4 => pieceQ (F := F) c j), fin4]; exact BI.Entails.refl _
/-- and back. -/
theorem joinQ (c : Dev nD) : iprop(pieceQ (F := F) c (fwd c 0) ∗ pieceQ (F := F) c (fwd c 1) ∗ pieceQ (F := F) c (fwd c 2) ∗ pieceQ (F := F) c (fwd c 3))
    ⊢ (iprop(∃ f, (gqM.view.loc (c : Thread nD τ)) ↦{fullShare} f) : sProp 𝕄) := by
  refine .trans ?_ (Ring.pointsTo_blocks_join_exists (ℓ := gqM.view.loc (c : Thread nD τ)) setQ slotQ_disjoint slotQ_cover
    (fun _ => FloatOps.ofBits .bf16 0))
  rw [bigSep_univ_equiv (around c) (fun j : Fin 4 => (iprop(∃ f, (gqM.view.loc (c : Thread nD τ)) ↦[(slotQ j).view.set]{fullShare} f) : sProp 𝕄)), fin4]
  exact BI.Entails.refl _

/-- Slot `j` of device `d` at any contents, alone. -/
def pieceO (d j : Dev nD) : sProp 𝕄 := iprop(∃ f, (slotO j).view.loc (d : Thread nD τ) ↦[(slotO j).view.set]{fullShare} f)
abbrev setO (j : Fin 4) : Finset S4x256x512.Idx := (slotO j).view.set
theorem slotO_disjoint (j j' : Fin 4) (h : j ≠ j') : Disjoint (setO j) (setO j') :=
  Finset.disjoint_left.mpr fun i hi hi' => h (Fin.ext (((mem_slotO j i).mp hi).symm.trans ((mem_slotO j' i).mp hi')))
theorem slotO_cover : Finset.univ.biUnion setO = Finset.univ := by
  ext i
  simp only [Finset.mem_biUnion, Finset.mem_univ, true_and, iff_true]
  exact ⟨i 0, (mem_slotO _ i).mpr rfl⟩
/-- The gather buffer whole is its four slots, listed by the distance of the device they are for; -/
theorem cutO (c : Dev nD) (f : Buf (Elt F) (goM.view.loc (c : Thread nD τ))) : ((goM.view.loc (c : Thread nD τ)) ↦{fullShare} f : sProp 𝕄)
    ⊢ iprop(pieceO (F := F) c (fwd c 0) ∗ pieceO (F := F) c (fwd c 1) ∗ pieceO (F := F) c (fwd c 2) ∗ pieceO (F := F) c (fwd c 3)) := by
  rw [Ring.pointsTo_blocks (ℓ := goM.view.loc (c : Thread nD τ)) setO slotO_disjoint slotO_cover f]
  have hp (j : Fin 4) : ((goM.view.loc (c : Thread nD τ)) ↦[setO j]{fullShare} f : sProp 𝕄) ⊢ pieceO (F := F) c j := by
    unfold pieceO; iintro H; iexists f; iexact H
  refine (bigSep_mono (Ψ := fun j : Fin 4 => pieceO (F := F) c j) fun j _ => hp j).trans ?_
  rw [bigSep_univ_equiv (around c) (fun j : Fin 4 => pieceO (F := F) c j), fin4]; exact BI.Entails.refl _
/-- and back. -/
theorem joinO (c : Dev nD) : iprop(pieceO (F := F) c (fwd c 0) ∗ pieceO (F := F) c (fwd c 1) ∗ pieceO (F := F) c (fwd c 2) ∗ pieceO (F := F) c (fwd c 3))
    ⊢ (iprop(∃ f, (goM.view.loc (c : Thread nD τ)) ↦{fullShare} f) : sProp 𝕄) := by
  refine .trans ?_ (Ring.pointsTo_blocks_join_exists (ℓ := goM.view.loc (c : Thread nD τ)) setO slotO_disjoint slotO_cover
    (fun _ => FloatOps.ofBits .bf16 0))
  rw [bigSep_univ_equiv (around c) (fun j : Fin 4 => (iprop(∃ f, (goM.view.loc (c : Thread nD τ)) ↦[(slotO j).view.set]{fullShare} f) : sProp 𝕄)), fin4]
  exact BI.Entails.refl _

/-! ## The shares -/

section Res

variable (WQ : Dev nD → (cc0_stg1_0 : Ref sig .tc).ty.Contents (Elt F)) (WO : Dev nD → (cc0_stg4_0 : Ref sig .tc).ty.Contents (Elt F))
variable (K : Dev nD × Fin 17 → ℕ)

/-- A weight block whole is the share kept and the three lent. -/
theorem lendQ (c : Dev nD) : ((wqM.view.loc (c : Thread nD τ)) ↦{fullShare} WQ c : sProp 𝕄)
    = iprop((sendPay WQ WO c 0 0 ∗ sendPay WQ WO c 0 1) ∗ (sendPay WQ WO c 0 2 ∗ sendPay WQ WO c 0 3)) := by
  have hs : (wqM.view.set : Finset _) = Finset.univ := View.set_whole _
  unfold sendPay lent
  dsimp only
  have sh (q : PosShare TreeShare) : ((wqM.view.loc (c : Thread nD τ)) ↦{q} WQ c : sProp 𝕄)
      = iprop(((wqM.view.loc (c : Thread nD τ)) ↦{q.left} WQ c) ∗ ((wqM.view.loc (c : Thread nD τ)) ↦{q.right} WQ c)) :=
    BI.equiv_iff.mp ⟨(pointsTo_share (PosShare.mem_left_op_right q)).1, (pointsTo_share (PosShare.mem_left_op_right q)).2⟩
  rw [hs, sh fullShare, sh fullShare.left, sh fullShare.right]

/-- A weight block whole is the share kept and the three lent. -/
theorem lendO (c : Dev nD) : ((woM.view.loc (c : Thread nD τ)) ↦{fullShare} WO c : sProp 𝕄)
    = iprop((sendPay WQ WO c 1 0 ∗ sendPay WQ WO c 1 1) ∗ (sendPay WQ WO c 1 2 ∗ sendPay WQ WO c 1 3)) := by
  have hs : (woM.view.set : Finset _) = Finset.univ := View.set_whole _
  unfold sendPay lent
  dsimp only
  have sh (q : PosShare TreeShare) : ((woM.view.loc (c : Thread nD τ)) ↦{q} WO c : sProp 𝕄)
      = iprop(((woM.view.loc (c : Thread nD τ)) ↦{q.left} WO c) ∗ ((woM.view.loc (c : Thread nD τ)) ↦{q.right} WO c)) :=
    BI.equiv_iff.mp ⟨(pointsTo_share (PosShare.mem_left_op_right q)).1, (pointsTo_share (PosShare.mem_left_op_right q)).2⟩
  rw [hs, sh fullShare, sh fullShare.left, sh fullShare.right]

/-! ## The cells -/

/-- The sixteen cells that live while the kernel runs. -/
abbrev osem (k : Fin 16) : SemLoc sig := semAt k.succ
/-- A cell of the kernel, opened. -/
def opened (c : Dev nD) : sProp 𝕄 :=
  bigSep Finset.univ fun k : Fin 16 => iprop(atPos ER (cell (c, k.succ)) 0 ∅ 0 ∗ reached ER (cell (c, k.succ)) 0)
/-- One cell opened, as the body names it. -/
abbrev op (g : GSem nD τ sig) : sProp 𝕄 := iprop(atPos ER g 0 ∅ 0 ∗ reached ER g 0)
theorem opened_eq (c : Dev nD) : opened (F := F) c = iprop(op (F := F) (sendCell c 0 0) ∗ op (F := F) (sendCell c 0 1) ∗ op (F := F) (sendCell c 0 2) ∗ op (F := F) (sendCell c 0 3) ∗ op (F := F) (sendCell c 1 0) ∗ op (F := F) (sendCell c 1 1) ∗ op (F := F) (sendCell c 1 2) ∗ op (F := F) (sendCell c 1 3) ∗ op (F := F) (recvCell c 0 0) ∗ op (F := F) (recvCell c 0 1) ∗ op (F := F) (recvCell c 0 2) ∗ op (F := F) (recvCell c 0 3) ∗ op (F := F) (recvCell c 1 0) ∗ op (F := F) (recvCell c 1 1) ∗ op (F := F) (recvCell c 1 2) ∗ op (F := F) (recvCell c 1 3)) := by
  unfold opened; rw [fin16]; rfl
theorem zeros_eq (c : Dev nD) : (Pipeline.ownSems0 osem c : sProp 𝕄) = iprop(semVal (sendCell c 0 0) 0 ∗ semVal (sendCell c 0 1) 0 ∗ semVal (sendCell c 0 2) 0 ∗ semVal (sendCell c 0 3) 0 ∗ semVal (sendCell c 1 0) 0 ∗ semVal (sendCell c 1 1) 0 ∗ semVal (sendCell c 1 2) 0 ∗ semVal (sendCell c 1 3) 0 ∗ semVal (recvCell c 0 0) 0 ∗ semVal (recvCell c 0 1) 0 ∗ semVal (recvCell c 0 2) 0 ∗ semVal (recvCell c 0 3) 0 ∗ semVal (recvCell c 1 0) 0 ∗ semVal (recvCell c 1 1) 0 ∗ semVal (recvCell c 1 2) 0 ∗ semVal (recvCell c 1 3) 0) := by
  unfold Pipeline.ownSems0; rw [fin16]; rfl

/-- The tokens a device spends. -/
def toks (c : Dev nD) : sProp 𝕄 :=
  iprop((dutyTok ER (barCell (fwd c 1)) 0 1 ∗ dutyTok ER (barCell (fwd c 2)) 0 2 ∗ dutyTok ER (barCell (fwd c 3)) 0 3)
    ∗ six (F := F) (fun t o => iprop(dutyTok ER (sendCell c t o) 0 0 ∗ dutyTok ER (recvCell (fwd c o) t o) 0 0)))

/-- A cell whose rounds are over closes. -/
theorem shut_bar (c : Dev nD) : iprop(records WQ WO K ∗ atPos ER (barCell c) (0 + 1) ∅ 0) ⊢ (|={Set.univ}=> semVal (barCell c) 0 : sProp 𝕄) := by
  iintro ⟨#HR, Hat⟩
  ihave ⟨#HI, -⟩ := (rec_bar WQ WO K c) $$ HR
  iapply (Rounds.cell_close ER (rd WQ WO) (Set.mem_univ (K (c, 0))) (fun h => h) (R := 0 + 1) (duties_later WQ WO (barCell c)))
  isplitr; · iexact HI
  iexact Hat
theorem shut_send (c : Dev nD) (t : Fin 2) (o : Fin 4) : iprop(records WQ WO K ∗ atPos ER (sendCell c t o) (0 + 1) ∅ 0) ⊢ (|={Set.univ}=> semVal (sendCell c t o) 0 : sProp 𝕄) := by
  iintro ⟨#HR, Hat⟩
  ihave #HI := (rec_S WQ WO K c t o) $$ HR
  iapply (Rounds.cell_close ER (rd WQ WO) (Set.mem_univ (K (c, kS t o))) (fun h => h) (R := 0 + 1) (duties_later WQ WO (sendCell c t o)))
  isplitr; · iexact HI
  iexact Hat
theorem shut_send0 (c : Dev nD) (t : Fin 2) : iprop(records WQ WO K ∗ atPos ER (sendCell c t 0) 0 ∅ 0) ⊢ (|={Set.univ}=> semVal (sendCell c t 0) 0 : sProp 𝕄) := by
  iintro ⟨#HR, Hat⟩
  ihave #HI := (rec_S WQ WO K c t 0) $$ HR
  iapply (Rounds.cell_close ER (rd WQ WO) (Set.mem_univ (K (c, kS t 0))) (fun h => h) (R := 0) (duties_send_zero WQ WO c t))
  isplitr; · iexact HI
  iexact Hat
theorem shut_recv (c : Dev nD) (t : Fin 2) (o : Fin 4) : iprop(records WQ WO K ∗ atPos ER (recvCell c t o) (0 + 1) ∅ 0) ⊢ (|={Set.univ}=> semVal (recvCell c t o) 0 : sProp 𝕄) := by
  iintro ⟨#HR, Hat⟩
  ihave #HI := (rec_R WQ WO K c t o) $$ HR
  iapply (Rounds.cell_close ER (rd WQ WO) (Set.mem_univ (K (c, kR t o))) (fun h => h) (R := 0 + 1) (duties_later WQ WO (recvCell c t o)))
  isplitr; · iexact HI
  iexact Hat
theorem shut_recv0 (c : Dev nD) (t : Fin 2) : iprop(records WQ WO K ∗ atPos ER (recvCell c t 0) 0 ∅ 0) ⊢ (|={Set.univ}=> semVal (recvCell c t 0) 0 : sProp 𝕄) := by
  iintro ⟨#HR, Hat⟩
  ihave #HI := (rec_R WQ WO K c t 0) $$ HR
  iapply (Rounds.cell_close ER (rd WQ WO) (Set.mem_univ (K (c, kR t 0))) (fun h => h) (R := 0) (duties_recv_zero WQ WO c t))
  isplitr; · iexact HI
  iexact Hat

end Res

variable (I : In F) (K : Dev nD × Fin 17 → ℕ)

/-! ## In and out -/

/-- The blocks of the arguments, whole. -/
def whole (c : Dev nD) : sProp 𝕄 :=
  iprop((xM.view.loc (c : Thread nD τ) ↦{fullShare} I.X) ∗ (wqM.view.loc (c : Thread nD τ) ↦{fullShare} I.WQ c)
    ∗ (kM.view.loc (c : Thread nD τ) ↦{fullShare} I.K) ∗ (vM.view.loc (c : Thread nD τ) ↦{fullShare} I.V)
    ∗ (woM.view.loc (c : Thread nD τ) ↦{fullShare} I.WO c))
/-- The three scratch buffers at any contents. -/
def scratch (c : Dev nD) : sProp 𝕄 :=
  iprop((∃ f, gqM.view.loc (c : Thread nD τ) ↦{fullShare} f) ∗ (∃ f, goM.view.loc (c : Thread nD τ) ↦{fullShare} f)
    ∗ (∃ f, xbM.view.loc (c : Thread nD τ) ↦{fullShare} f))
/-- What the protocol gives a device to start with. -/
def dealt (c : Dev nD) : sProp 𝕄 :=
  iprop(atPos ER (barCell c) 0 ∅ 0 ∗ opened (F := F) c ∗ toks (F := F) c
    ∗ cred (tallyAt (barCell c) () 3) ∗ six (F := F) (fun t o => cred (tallyAt (recvCell c t o) () N)))
/-- What the body does not touch: the device's own slots, and the four cells of distance 0. -/
def spare (c : Dev nD) : sProp 𝕄 :=
  iprop((pieceQ (F := F) c (fwd c 0) ∗ pieceO (F := F) c (fwd c 0))
    ∗ atPos ER (sendCell c 0 0) 0 ∅ 0 ∗ atPos ER (sendCell c 1 0) 0 ∅ 0 ∗ atPos ER (recvCell c 0 0) 0 ∅ 0 ∗ atPos ER (recvCell c 1 0) 0 ∅ 0)

theorem gap_back1 (c : Dev nD) : gap (fwd c 1) c = 3 := by revert c; decide
theorem gap_back2 (c : Dev nD) : gap (fwd c 2) c = 2 := by revert c; decide
theorem gap_back3 (c : Dev nD) : gap (fwd c 3) c = 1 := by revert c; decide

theorem enter (c : Dev nD) (W : Waits sig Unit) :
    iprop(owes (c : Thread nD τ) (O₀ c) W ∗ dealt (F := F) c ∗ whole I c ∗ scratch (F := F) c ∗ (∃ g, oM.view.loc (c : Thread nD τ) ↦{fullShare} g))
      ⊢ iprop(start I c W ∗ spare (F := F) c) := by
  unfold dealt whole scratch start spare toks args sigRes sendRes pend six
  rw [lendQ I.WQ I.WO c, lendO I.WQ I.WO c, opened_eq]
  unfold slotQAny slotOAny
  simp only [gap_fwd]
  iintro ⟨HO, ⟨Hb, ⟨⟨HS00, #HeS00⟩, ⟨HS01, #HeS01⟩, ⟨HS02, #HeS02⟩, ⟨HS03, #HeS03⟩, ⟨HS10, #HeS10⟩, ⟨HS11, #HeS11⟩, ⟨HS12, #HeS12⟩, ⟨HS13, #HeS13⟩, ⟨HR00, #HeR00⟩, ⟨HR01, #HeR01⟩, ⟨HR02, #HeR02⟩, ⟨HR03, #HeR03⟩, ⟨HR10, #HeR10⟩, ⟨HR11, #HeR11⟩, ⟨HR12, #HeR12⟩, ⟨HR13, #HeR13⟩⟩, ⟨⟨Hb1, Hb2, Hb3⟩, ⟨⟨Ht03, Hu03⟩, ⟨Ht13, Hu13⟩, ⟨Ht02, Hu02⟩, ⟨Ht12, Hu12⟩, ⟨Ht01, Hu01⟩, ⟨Ht11, Hu11⟩⟩⟩, Hcb, ⟨Hc03, Hc13, Hc02, Hc12, Hc01, Hc11⟩⟩, ⟨Hx, ⟨⟨Hq0, Hq1⟩, ⟨Hq2, Hq3⟩⟩, HK, HV, ⟨⟨Ho0, Ho1⟩, ⟨Ho2, Ho3⟩⟩⟩, ⟨⟨%fq, Hgq⟩, ⟨%fo, Hgo⟩, Hxb⟩, Hout⟩
  ihave Hgq := (cutQ c fq) $$ Hgq
  icases Hgq with ⟨Hgq0, Hgq1, Hgq2, Hgq3⟩
  ihave Hgo := (cutO c fo) $$ Hgo
  icases Hgo with ⟨Hgo0, Hgo1, Hgo2, Hgo3⟩
  isplitr [Hgq0 Hgo0 HS00 HS10 HR00 HR10]
  · isplitl [HO]; · iexact HO
    isplitl [Hb1 Hgq1 Hgo1 Hb2 Hgq2 Hgo2 Hb3 Hgq3 Hgo3]
    · isplitl [Hb1 Hgq1 Hgo1]
      · isplitl [Hb1]; · iexact Hb1
        isplitl [Hgq1]
        · isplitl [Hgq1]; · unfold pieceQ; iexact Hgq1
          rw [gap_back1 c]; iexact HeR03
        isplitl [Hgo1]; · unfold pieceO; iexact Hgo1
        rw [gap_back1 c]; iexact HeR13
      isplitl [Hb2 Hgq2 Hgo2]
      · isplitl [Hb2]; · iexact Hb2
        isplitl [Hgq2]
        · isplitl [Hgq2]; · unfold pieceQ; iexact Hgq2
          rw [gap_back2 c]; iexact HeR02
        isplitl [Hgo2]; · unfold pieceO; iexact Hgo2
        rw [gap_back2 c]; iexact HeR12
      isplitl [Hb3]; · iexact Hb3
      isplitl [Hgq3]
      · isplitl [Hgq3]; · unfold pieceQ; iexact Hgq3
        rw [gap_back3 c]; iexact HeR01
      isplitl [Hgo3]; · unfold pieceO; iexact Hgo3
      rw [gap_back3 c]; iexact HeR11
    isplitl [Hcb]; · iexact Hcb
    isplitl [Hb]; · iexact Hb
    isplitl [Hq3 Ht03 Hu03 Ho3 Ht13 Hu13 Hq2 Ht02 Hu02 Ho2 Ht12 Hu12 Hq1 Ht01 Hu01 Ho1 Ht11 Hu11]
    · isplitl [Hq3 Ht03 Hu03]
      · isplitl [Hq3]; · iexact Hq3
        isplitl [Ht03]; · iexact Ht03
        isplitl [Hu03]; · iexact Hu03
        iexact HeS03
      isplitl [Ho3 Ht13 Hu13]
      · isplitl [Ho3]; · iexact Ho3
        isplitl [Ht13]; · iexact Ht13
        isplitl [Hu13]; · iexact Hu13
        iexact HeS13
      isplitl [Hq2 Ht02 Hu02]
      · isplitl [Hq2]; · iexact Hq2
        isplitl [Ht02]; · iexact Ht02
        isplitl [Hu02]; · iexact Hu02
        iexact HeS02
      isplitl [Ho2 Ht12 Hu12]
      · isplitl [Ho2]; · iexact Ho2
        isplitl [Ht12]; · iexact Ht12
        isplitl [Hu12]; · iexact Hu12
        iexact HeS12
      isplitl [Hq1 Ht01 Hu01]
      · isplitl [Hq1]; · iexact Hq1
        isplitl [Ht01]; · iexact Ht01
        isplitl [Hu01]; · iexact Hu01
        iexact HeS01
      isplitl [Ho1]; · iexact Ho1
      isplitl [Ht11]; · iexact Ht11
      isplitl [Hu11]; · iexact Hu11
      iexact HeS11
    isplitl [HS03 HS13 HS02 HS12 HS01 HS11]
    · isplitl [HS03]; · iexact HS03
      isplitl [HS13]; · iexact HS13
      isplitl [HS02]; · iexact HS02
      isplitl [HS12]; · iexact HS12
      isplitl [HS01]; · iexact HS01
      iexact HS11
    isplitl [Hc03 HR03 Hc13 HR13 Hc02 HR02 Hc12 HR12 Hc01 HR01 Hc11 HR11]
    · isplitl [Hc03 HR03]
      · isplitl [Hc03]; · iexact Hc03
        iexact HR03
      isplitl [Hc13 HR13]
      · isplitl [Hc13]; · iexact Hc13
        iexact HR13
      isplitl [Hc02 HR02]
      · isplitl [Hc02]; · iexact Hc02
        iexact HR02
      isplitl [Hc12 HR12]
      · isplitl [Hc12]; · iexact Hc12
        iexact HR12
      isplitl [Hc01 HR01]
      · isplitl [Hc01]; · iexact Hc01
        iexact HR01
      isplitl [Hc11]; · iexact Hc11
      iexact HR11
    isplitl [Hx HK HV Hq0 Ho0]
    · isplitl [Hx]; · iexact Hx
      isplitl [HK]; · iexact HK
      isplitl [HV]; · iexact HV
      isplitl [Hq0]; · iexact Hq0
      iexact Ho0
    isplitl [Hxb]; · iexact Hxb
    iexact Hout
  · isplitl [Hgq0 Hgo0]
    · isplitl [Hgq0]; · iexact Hgq0
      iexact Hgo0
    isplitl [HS00]; · iexact HS00
    isplitl [HS10]; · iexact HS10
    isplitl [HR00]; · iexact HR00
    iexact HR10

theorem got_pieceQ (c : Dev nD) (o o' : Fin 4) (h : bwd c o = fwd c o') : recvPay I.WQ I.WO c 0 o ⊢ pieceQ (F := F) c (fwd c o') := by
  unfold recvPay pieceQ owns; dsimp only; rw [h]
  iintro ⟨%f, -, H⟩; iexists f; iexact H
theorem got_pieceO (c : Dev nD) (o o' : Fin 4) (h : bwd c o = fwd c o') : recvPay I.WQ I.WO c 1 o ⊢ pieceO (F := F) c (fwd c o') := by
  unfold recvPay pieceO owns; dsimp only; rw [h]
  iintro ⟨%f, -, H⟩; iexists f; iexact H

/-- The end: every cell of the device closed, the buffers whole again. -/
theorem leave (c : Dev nD) :
    iprop(records I.WQ I.WO K ∗ done I c ∗ spare (F := F) c)
      ⊢ (|={Set.univ}=> (idle (F := F) c ∗ (semVal (barCell c) 0 ∗ Pipeline.ownSems0 osem c) ∗ whole I c ∗ scratch (F := F) c
          ∗ (oM.view.loc (c : Thread nD τ) ↦{fullShare} outV I c)) : sProp 𝕄) := by
  unfold done spare args got back six
  iintro ⟨#HR, ⟨Hid, Hb, ⟨⟨HR03, Hp03⟩, ⟨HR13, Hp13⟩, ⟨HR02, Hp02⟩, ⟨HR12, Hp12⟩, ⟨HR01, Hp01⟩, ⟨HR11, Hp11⟩⟩, ⟨⟨HS03, Hq3⟩, ⟨HS13, Ho3⟩, ⟨HS02, Hq2⟩, ⟨HS12, Ho2⟩, ⟨HS01, Hq1⟩, ⟨HS11, Ho1⟩⟩, ⟨Hx, HK, HV, Hq0, Ho0⟩, Hxb, Hout⟩, ⟨⟨Hgq0, Hgo0⟩, HS00, HS10, HR00, HR10⟩⟩
  imod (shut_bar I.WQ I.WO K c) $$ [Hb] with Hb
  · isplitr; · iexact HR
    iexact Hb
  imod (shut_send0 I.WQ I.WO K c 0) $$ [HS00] with HS00
  · isplitr; · iexact HR
    iexact HS00
  imod (shut_send I.WQ I.WO K c 0 1) $$ [HS01] with HS01
  · isplitr; · iexact HR
    iexact HS01
  imod (shut_send I.WQ I.WO K c 0 2) $$ [HS02] with HS02
  · isplitr; · iexact HR
    iexact HS02
  imod (shut_send I.WQ I.WO K c 0 3) $$ [HS03] with HS03
  · isplitr; · iexact HR
    iexact HS03
  imod (shut_send0 I.WQ I.WO K c 1) $$ [HS10] with HS10
  · isplitr; · iexact HR
    iexact HS10
  imod (shut_send I.WQ I.WO K c 1 1) $$ [HS11] with HS11
  · isplitr; · iexact HR
    iexact HS11
  imod (shut_send I.WQ I.WO K c 1 2) $$ [HS12] with HS12
  · isplitr; · iexact HR
    iexact HS12
  imod (shut_send I.WQ I.WO K c 1 3) $$ [HS13] with HS13
  · isplitr; · iexact HR
    iexact HS13
  imod (shut_recv0 I.WQ I.WO K c 0) $$ [HR00] with HR00
  · isplitr; · iexact HR
    iexact HR00
  imod (shut_recv I.WQ I.WO K c 0 1) $$ [HR01] with HR01
  · isplitr; · iexact HR
    iexact HR01
  imod (shut_recv I.WQ I.WO K c 0 2) $$ [HR02] with HR02
  · isplitr; · iexact HR
    iexact HR02
  imod (shut_recv I.WQ I.WO K c 0 3) $$ [HR03] with HR03
  · isplitr; · iexact HR
    iexact HR03
  imod (shut_recv0 I.WQ I.WO K c 1) $$ [HR10] with HR10
  · isplitr; · iexact HR
    iexact HR10
  imod (shut_recv I.WQ I.WO K c 1 1) $$ [HR11] with HR11
  · isplitr; · iexact HR
    iexact HR11
  imod (shut_recv I.WQ I.WO K c 1 2) $$ [HR12] with HR12
  · isplitr; · iexact HR
    iexact HR12
  imod (shut_recv I.WQ I.WO K c 1 3) $$ [HR13] with HR13
  · isplitr; · iexact HR
    iexact HR13
  ihave Hp03 := (got_pieceQ I c 3 1 (by revert c; decide)) $$ Hp03
  ihave Hp13 := (got_pieceO I c 3 1 (by revert c; decide)) $$ Hp13
  ihave Hp02 := (got_pieceQ I c 2 2 (by revert c; decide)) $$ Hp02
  ihave Hp12 := (got_pieceO I c 2 2 (by revert c; decide)) $$ Hp12
  ihave Hp01 := (got_pieceQ I c 1 3 (by revert c; decide)) $$ Hp01
  ihave Hp11 := (got_pieceO I c 1 3 (by revert c; decide)) $$ Hp11
  imodintro
  isplitl [Hid]; · iexact Hid
  isplitl [Hb HS00 HS01 HS02 HS03 HS10 HS11 HS12 HS13 HR00 HR01 HR02 HR03 HR10 HR11 HR12 HR13]
  · isplitl [Hb]; · iexact Hb
    rw [zeros_eq]
    isplitl [HS00]; · iexact HS00
    isplitl [HS01]; · iexact HS01
    isplitl [HS02]; · iexact HS02
    isplitl [HS03]; · iexact HS03
    isplitl [HS10]; · iexact HS10
    isplitl [HS11]; · iexact HS11
    isplitl [HS12]; · iexact HS12
    isplitl [HS13]; · iexact HS13
    isplitl [HR00]; · iexact HR00
    isplitl [HR01]; · iexact HR01
    isplitl [HR02]; · iexact HR02
    isplitl [HR03]; · iexact HR03
    isplitl [HR10]; · iexact HR10
    isplitl [HR11]; · iexact HR11
    isplitl [HR12]; · iexact HR12
    iexact HR13
  isplitl [Hx Hq0 Hq1 Hq2 Hq3 HK HV Ho0 Ho1 Ho2 Ho3]
  · unfold whole
    rw [lendQ I.WQ I.WO c, lendO I.WQ I.WO c]
    isplitl [Hx]; · iexact Hx
    isplitl [Hq0 Hq1 Hq2 Hq3]
    · isplitl [Hq0 Hq1]
      · isplitl [Hq0]; · iexact Hq0
        iexact Hq1
      isplitl [Hq2]; · iexact Hq2
      iexact Hq3
    isplitl [HK]; · iexact HK
    isplitl [HV]; · iexact HV
    isplitl [Ho0 Ho1]
    · isplitl [Ho0]; · iexact Ho0
      iexact Ho1
    isplitl [Ho2]; · iexact Ho2
    iexact Ho3
  isplitl [Hgq0 Hgo0 Hxb Hp03 Hp13 Hp02 Hp12 Hp01 Hp11]
  · unfold scratch
    isplitl [Hgq0 Hp01 Hp02 Hp03]
    · iapply (joinQ c)
      isplitl [Hgq0]; · iexact Hgq0
      isplitl [Hp03]; · iexact Hp03
      isplitl [Hp02]; · iexact Hp02
      iexact Hp01
    isplitl [Hgo0 Hp11 Hp12 Hp13]
    · iapply (joinO c)
      isplitl [Hgo0]; · iexact Hgo0
      isplitl [Hp13]; · iexact Hp13
      isplitl [Hp12]; · iexact Hp12
      iexact Hp11
    iexists I.X; iexact Hxb
  iexact Hout

end Cert.BlockAttn
-- ==== Proof.Region.lean ====
module

public import proofs.«01_k».proof.Proof.Open
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

/-! The one pipelined call of the kernel as a segment of the program: what its windows hold, that its body meets
    its obligation there, and the record of a call that talks to the other devices. -/

@[expose] public section

noncomputable section

namespace Cert.BlockAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What the call of device c works on: the contents of its arrays when the host's slices are made. -/
def inp (c : Dev nD) : In F where
  X := V1 m c main_arg0
  K := V1 m c main_v10
  V := V1 m c main_v16
  WQ d := V1 m d main_arg1
  WO d := V1 m d main_arg4

theorem inp_WQ (c c' : Dev nD) : (inp m c).WQ = (inp m c').WQ := rfl
theorem inp_WO (c c' : Dev nD) : (inp m c).WO = (inp m c').WO := rfl

/-- The buffers of device c after the call. -/
def V3 (c : Dev nD) : Valuation τ sig (Elt F) := Function.update (V1 m c) main_v17 (outV (inp m c) c)

/-- Before the call: every cell's record, this core's positions and tokens, and the credit for what it waits on. -/
def Tk (c : Dev nD) : sProp 𝕄 :=
  iprop((∃ K, records (inp m c).WQ (inp m c).WO K ∗ atPos ER (barCell c) 0 ∅ 0 ∗ (bigSep Finset.univ fun k : Fin 16 => openTok ER (cell (c, k.succ))) ∗ toks (F := F) c)
    ∗ cred (tallyAt (barCell c) () 3) ∗ six (F := F) (fun t o => cred (tallyAt (recvCell c t o) () N)))
/-- The same when the call's own cells are open. -/
def Xk (c : Dev nD) : sProp 𝕄 :=
  iprop((∃ K, records (inp m c).WQ (inp m c).WO K) ∗ dealt (F := F) c ∗ levAts L lv)

/-- The invariant of the call's one point, before it and after it. -/
def Φ0 (c : Dev nD) : sProp 𝕄 := iprop(scratch (F := F) c ∗ (∃ r, prngReg c r) ∗ Xk m c)
def Φ1 (c : Dev nD) : sProp 𝕄 := iprop(scratch (F := F) c ∗ (∃ r, prngReg c r) ∗ Pipeline.ownSems0 osem c ∗ semVal (barCell c) 0)

/-- The data of the call on core c. -/
def dat (c : Dev nD) : Dat τ (Elt F) Unit ℕ UU ℕ cfg0 c where
  A w := V1 m c (Proc.devRef .tc (Pipeline.arrRef spec0 w))
  after w _ := match w with
    | 0 => (inp m c).X
    | 1 => (inp m c).WQ c
    | 2 => (inp m c).K
    | 3 => (inp m c).V
    | 4 => (inp m c).WO c
    | 5 => outV (inp m c) c
  Φ t := if t.val = 0 then Φ0 m c else Φ1 (F := F) c
  q _ := fullShare
  owed t := if t.val = 0 then O₀ c else 0

/-! ## What a whole window's block is -/

theorem blk_read0 (f : main_arg0.ty.Contents (Elt F)) : (win0_0.blk (0 : Fin 1)).view.read (Elt F) f = f := by
  funext i
  refine congrArg f (funext fun a => Fin.ext ?_)
  show ((win0_0.rect (0 : Fin 1)).emb i a).val = (i a).val
  rw [Rect.emb_apply]
  show 0 * _ + 1 * (i a).val = (i a).val
  omega
theorem blk_read1 (f : main_arg1.ty.Contents (Elt F)) : (win0_1.blk (0 : Fin 1)).view.read (Elt F) f = f := by
  funext i
  refine congrArg f (funext fun a => Fin.ext ?_)
  show ((win0_1.rect (0 : Fin 1)).emb i a).val = (i a).val
  rw [Rect.emb_apply]
  show 0 * _ + 1 * (i a).val = (i a).val
  omega
theorem blk_read2 (f : main_v10.ty.Contents (Elt F)) : (win0_2.blk (0 : Fin 1)).view.read (Elt F) f = f := by
  funext i
  refine congrArg f (funext fun a => Fin.ext ?_)
  show ((win0_2.rect (0 : Fin 1)).emb i a).val = (i a).val
  rw [Rect.emb_apply]
  show 0 * _ + 1 * (i a).val = (i a).val
  omega
theorem blk_read3 (f : main_v16.ty.Contents (Elt F)) : (win0_3.blk (0 : Fin 1)).view.read (Elt F) f = f := by
  funext i
  refine congrArg f (funext fun a => Fin.ext ?_)
  show ((win0_3.rect (0 : Fin 1)).emb i a).val = (i a).val
  rw [Rect.emb_apply]
  show 0 * _ + 1 * (i a).val = (i a).val
  omega
theorem blk_read4 (f : main_arg4.ty.Contents (Elt F)) : (win0_4.blk (0 : Fin 1)).view.read (Elt F) f = f := by
  funext i
  refine congrArg f (funext fun a => Fin.ext ?_)
  show ((win0_4.rect (0 : Fin 1)).emb i a).val = (i a).val
  rw [Rect.emb_apply]
  show 0 * _ + 1 * (i a).val = (i a).val
  omega
theorem blk_read5 (f : main_v17.ty.Contents (Elt F)) : (win0_5.blk (0 : Fin 1)).view.read (Elt F) f = f := by
  funext i
  refine congrArg f (funext fun a => Fin.ext ?_)
  show ((win0_5.rect (0 : Fin 1)).emb i a).val = (i a).val
  rw [Rect.emb_apply]
  show 0 * _ + 1 * (i a).val = (i a).val
  omega

/-- The result array after the call is what the body leaves. -/
theorem arrAt_out (c : Dev nD) : (dat m c).arrAt (5 : Fin 6) cfg0.N = outV (inp m c) c := by
  have h := Dat.arrAt_succ (dat m c) (5 : Fin 6) t0_0
  rw [if_pos (flush0_5 t0_0)] at h
  refine Eq.trans (b := (dat m c).arrAt (5 : Fin 6) (t0_0.val + 1)) rfl (h.trans ?_)
  have e := View.read_write_univ (v := (win0_5.blk (0 : Fin 1)).view) (Val := Elt F) ((dat m c).arrAt (5 : Fin 6) 0) (outV (inp m c) c)
  rw [blk_read5] at e
  exact e

theorem before0 (c : Dev nD) (d) : (dat m c).before (0 : Fin 6) t0_0 d = (inp m c).X := by
  unfold Dat.before; rw [if_pos (fetch0_0 t0_0)]
  exact blk_read0 (F := F) _
theorem before1 (c : Dev nD) (d) : (dat m c).before (1 : Fin 6) t0_0 d = (inp m c).WQ c := by
  unfold Dat.before; rw [if_pos (fetch0_1 t0_0)]
  exact blk_read1 (F := F) _
theorem before2 (c : Dev nD) (d) : (dat m c).before (2 : Fin 6) t0_0 d = (inp m c).K := by
  unfold Dat.before; rw [if_pos (fetch0_2 t0_0)]
  exact blk_read2 (F := F) (V1 m c main_v10)
theorem before3 (c : Dev nD) (d) : (dat m c).before (3 : Fin 6) t0_0 d = (inp m c).V := by
  unfold Dat.before; rw [if_pos (fetch0_3 t0_0)]
  exact blk_read3 (F := F) (V1 m c main_v16)
theorem before4 (c : Dev nD) (d) : (dat m c).before (4 : Fin 6) t0_0 d = (inp m c).WO c := by
  unfold Dat.before; rw [if_pos (fetch0_4 t0_0)]
  exact blk_read4 (F := F) _

theorem owes_intro (c : Dev nD) (t : Fin (cfg0.N + 1)) (W : Waits sig Unit) (O : CellTallies nD τ sig Unit) (h : (dat m c).owed t = O) :
    (owes (c : Thread nD τ) O W : sProp 𝕄) ⊢ (dat m c).owesAt () t := by
  unfold Dat.owesAt Pipeline.owesWithin Dat.bound
  rw [h]
  iintro H; iexists W
  isplitr; · ipureintro; exact fun _ _ => Or.inl trivial
  iexact H
theorem owes_elim (c : Dev nD) (t : Fin (cfg0.N + 1)) (O : CellTallies nD τ sig Unit) (h : (dat m c).owed t = O) :
    (dat m c).owesAt () t ⊢ (iprop(∃ W, owes (c : Thread nD τ) O W) : sProp 𝕄) := by
  unfold Dat.owesAt Pipeline.owesWithin Dat.bound
  rw [h]
  iintro H; icases H with ⟨%W, -, H⟩
  iexists W; iexact H

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : stg c b X ⊢ (((c : Thread nD τ).loc b) ↦{fullShare} X : sProp 𝕄) := by
  iintro H; icases H with ⟨%f, %h, H⟩; subst h; iexact H
theorem stg_intro (c : Dev nD) (b : Ref sig .tc) (X : b.ty.Contents (Elt F)) : (((c : Thread nD τ).loc b) ↦{fullShare} X : sProp 𝕄) ⊢ stg c b X := by
  iintro H; iexists X; isplitr; · ipureintro; rfl
  iexact H

def bodyPre (c : Dev nD) : sProp 𝕄 :=
  iprop(Φ0 m c ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
def bodyPost (c : Dev nD) : sProp 𝕄 :=
  iprop(Φ1 (F := F) c ∗ (dat m c).owesAt () t0_0.succ
    ∗ stg c cc0_stg0_0 (inp m c).X ∗ stg c cc0_stg1_0 ((inp m c).WQ c) ∗ stg c cc0_stg2_0 (inp m c).K ∗ stg c cc0_stg3_0 (inp m c).V
    ∗ stg c cc0_stg4_0 ((inp m c).WO c) ∗ stg c cc0_stg5_0 (outV (inp m c) c))

/-- The body of the call, from what the windows hold to what they are left with. -/
theorem body_at (c : Dev nD) : bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) (fun _ => bodyPost m c) := by
  unfold bodyPre
  simp only [before0, before1, before2, before3, before4]
  unfold Φ0 Xk
  iintro ⟨⟨Hs, Hp, ⟨%K, #HR⟩, Hd, #HL⟩, Ho, ⟨%_, H0⟩, ⟨%_, H1⟩, ⟨%_, H2⟩, ⟨%_, H3⟩, ⟨%_, H4⟩, ⟨%d5, H5⟩⟩
  ihave Ho := (owes_elim m c t0_0.castSucc (O₀ c) rfl) $$ Ho
  icases Ho with ⟨%W, Ho⟩
  ihave H0 := (stg_elim (F := F) c _ _) $$ H0
  ihave H1 := (stg_elim (F := F) c _ _) $$ H1
  ihave H2 := (stg_elim (F := F) c _ _) $$ H2
  ihave H3 := (stg_elim (F := F) c _ _) $$ H3
  ihave H4 := (stg_elim (F := F) c _ _) $$ H4
  ihave H5 := (stg_elim (F := F) c _ _) $$ H5
  have he := enter (inp m c) c W
  ihave He := he $$ [Ho Hd H0 H1 H2 H3 H4 H5 Hs]
  · isplitl [Ho]; · iexact Ho
    isplitl [Hd]; · iexact Hd
    isplitl [H0 H1 H2 H3 H4]
    · unfold whole
      isplitl [H0]; · iexact H0
      isplitl [H1]; · iexact H1
      isplitl [H2]; · iexact H2
      isplitl [H3]; · iexact H3
      iexact H4
    isplitl [Hs]; · iexact Hs
    iexists _; iexact H5
  icases He with ⟨Hst, Hsp⟩
  iapply wp_fupd
  have hb := body_run (inp m c) K c W (Q := fun _ => iprop(|={Set.univ}=> bodyPost m c))
  iapply hb
  isplitr; · iexact HR
  isplitr; · iexact HL
  isplitl [Hst]; · iexact Hst
  iintro Hdone
  have hl := leave (inp m c) K c
  imod hl $$ [Hdone Hsp] with ⟨Hi, ⟨Hb, Hz⟩, Hw, Hs, Hout⟩
  · isplitr; · iexact HR
    isplitl [Hdone]; · iexact Hdone
    iexact Hsp
  imodintro
  unfold bodyPost Φ1
  unfold whole
  icases Hw with ⟨H0, H1, H2, H3, H4⟩
  unfold idle
  icases Hi with ⟨%W', Hi⟩
  isplitl [Hs Hp Hb Hz]
  · isplitl [Hs]; · iexact Hs
    isplitl [Hp]; · iexact Hp
    isplitl [Hz]; · iexact Hz
    iexact Hb
  isplitl [Hi]
  · iapply (owes_intro m c t0_0.succ W' 0 rfl) $$ Hi
  isplitl [H0]; · iapply (stg_intro (F := F) c cc0_stg0_0 _) $$ H0
  isplitl [H1]; · iapply (stg_intro (F := F) c cc0_stg1_0 _) $$ H1
  isplitl [H2]; · iapply (stg_intro (F := F) c cc0_stg2_0 _) $$ H2
  isplitl [H3]; · iapply (stg_intro (F := F) c cc0_stg3_0 _) $$ H3
  isplitl [H4]; · iapply (stg_intro (F := F) c cc0_stg4_0 _) $$ H4
  iapply (stg_intro (F := F) c cc0_stg5_0 _) $$ Hout

set_option backward.isDefEq.respectTransparency.types false in
theorem body (c : Dev nD) : BodyObligation (dat m c) defs₀ 𝒱₀ () Set.univ := fun t => by
  obtain rfl := fin_N0 t
  rw [bigSep_W0, bigSep_W0]
  simp only [owns_whole_eq]
  rw [show (dat m c).Φ t0_0.castSucc = Φ0 m c from rfl, show (dat m c).Φ t0_0.succ = Φ1 (F := F) c from rfl]
  show bodyPre m c ⊢ wp frame (wpE (defs₀ (F := F)) 𝒱₀ c none) Set.univ _ (fun _ => bodyPost m c)
  exact body_at m c

end Cert.BlockAttn

end
-- ==== Proof.Segment.lean ====
/-
The launch: every cell's invariant allocated, the transfers' cells dormant until the call opens them, the tokens dealt to the
devices that pay with them, and the credit each device starts with.
-/
module

public import proofs.«01_k».proof.Proof.Region

@[expose] public section

noncomputable section

namespace Cert.BlockAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The call as a segment -/

def pdats : (p : Fin 1) → (c : Dev nD) → Dat τ (Elt F) Unit ℕ UU ℕ (cfgs p) c
  | 0 => dat m

theorem open_own (K : Dev nD × Fin 17 → ℕ) (c : Dev nD) :
    iprop(records (inp m c).WQ (inp m c).WO K ∗ (bigSep Finset.univ fun k : Fin 16 => openTok ER (cell (c, k.succ))) ∗ Pipeline.ownSems0 osem c)
      ⊢ (|={Set.univ}=> opened (F := F) c : sProp 𝕄) := by
  have h : iprop(records (inp m c).WQ (inp m c).WO K ∗ bigSep Finset.univ fun k : Fin 16 => iprop(openTok ER (cell (c, k.succ)) ∗ semVal ((c : Thread nD τ), osem k) 0))
      ⊢ (bigSep Finset.univ fun k : Fin 16 => iprop(|={Set.univ}=> (atPos ER (cell (c, k.succ)) 0 ∅ 0 ∗ reached ER (cell (c, k.succ)) 0)) : sProp 𝕄) :=
    bigSep_with_persistent fun k _ => by
      iintro ⟨#HR, Ho, Hv⟩
      have hi := rec_at (F := F) (inp m c).WQ (inp m c).WO K (c, k.succ)
      ihave #HI := hi $$ HR
      have hc := Rounds.cell_open ER (rd (inp m c).WQ (inp m c).WO) (g := cell (c, k.succ)) (Set.mem_univ (K (c, k.succ)))
      iapply hc
      isplitr; · iexact HI
      isplitl [Ho]; · iexact Ho
      iexact Hv
  unfold opened Pipeline.ownSems0
  have h2 := h.trans (bigSep_fupd _ _)
  iintro ⟨#HR, Ho, Hv⟩
  iapply h2
  isplitr; · iexact HR
  rw [bigSep_sep']
  isplitl [Ho]; · iexact Ho
  iexact Hv

theorem hopen (c : Dev nD) : iprop(Tk m c ∗ Pipeline.ownSems0 osem c ∗ levAts L lv) ⊢ (|={Set.univ}=> Xk m c : sProp 𝕄) := by
  unfold Tk Xk dealt
  iintro ⟨⟨⟨%K, #HR, Hat, Hop, Ht⟩, HcB, HcV⟩, Hos, #Hlev⟩
  have ho := open_own m K c
  imod ho $$ [Hop Hos] with Hopd
  · isplitr; · iexact HR
    isplitl [Hop] <;> iassumption
  imodintro
  isplitr; · iexists K; iexact HR
  isplitl; swap; · iexact Hlev
  isplitl [Hat]; · iexact Hat
  isplitl [Hopd]; · iexact Hopd
  isplitl [Ht]; · iexact Ht
  isplitl [HcB] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin (cfg0.N + 1)) (g : GSem nD τ sig) (i : Unit) (h : 0 < (dat (F := F) m c).owed t g i) :
    i ∈ L g ∧ (0 : ℕ) < lv g i := by
  have e : (dat (F := F) m c).owed t = if t.val = 0 then O₀ c else 0 := rfl
  rw [e] at h
  split at h
  · rcases O₀_pos h with ⟨d, t', o, rfl⟩ | ⟨d, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

theorem held_none (c : Dev nD) (W : Valuation τ sig (Elt F)) : (StableHlo.held (c.tc : Thread nD τ) (∅ : Finset (DevRef τ sig)) W : sProp 𝕄) = BI.emp := by
  unfold StableHlo.held
  exact BI.bigSep_empty

theorem hin (c : Dev nD) : iprop(Pipeline.scopedRest spec0 c ∗ (∃ r, prngReg c r) ∗ StableHlo.held (c.tc : Thread nD τ) ∅ (V1 m c) ∗ Xk m c)
    ⊢ (Φ0 m c : sProp 𝕄) := by
  rw [scopedRest0_eq]
  unfold Φ0 scratch
  iintro ⟨⟨H1, H2, H3⟩, Hp, -, HX⟩
  isplitl [H1 H2 H3]
  · isplitl [H1]; · iexact H1
    isplitl [H2]; · iexact H2
    iexact H3
  isplitl [Hp] <;> iassumption

theorem hout (c : Dev nD) : Φ1 (F := F) c
    ⊢ (iprop(Pipeline.scopedRest spec0 c ∗ (∃ r, prngReg c r) ∗ StableHlo.held (c.tc : Thread nD τ) ∅ (V3 m c) ∗ Pipeline.ownSems0 osem c ∗ semVal (barCell c) 0) : sProp 𝕄) := by
  rw [scopedRest0_eq, held_none]
  unfold Φ1 scratch
  iintro ⟨⟨H1, H2, H3⟩, Hp, Hos, Hb⟩
  isplitl [H1 H2 H3]
  · isplitl [H1]; · iexact H1
    isplitl [H2]; · iexact H2
    iexact H3
  isplitl [Hp]; · iexact Hp
  isplitr; · iempintro
  isplitl [Hos] <;> iassumption

/-- The buffers no window stages. -/
abbrev rest : Finset (DevRef τ sig) := Pipeline.ucRefs τ sig \ Pipeline.arrRefs (τ := τ) spec0

theorem V3_of (c : Dev nD) (r : Ref sig .tc) (h : r ∉ ([main_v17] : List (Ref sig .tc))) : V3 m c r = V1 m c r := by
  unfold V3
  rw [Function.update_of_ne (StableHlo.devRef_ne_of_ne (List.ne_of_not_mem_cons h) : (Proc.devRef .tc r : DevRef τ sig) ≠ Proc.devRef .tc main_v17)]
theorem V3_out (c : Dev nD) : V3 m c main_v17 = outV (inp m c) c := by
  unfold V3; rw [Function.update_self]

theorem rest_eq (c : Dev nD) (b : DevRef τ sig) (hb : b ∈ rest) : V3 m c b = V1 m c b := by
  unfold V3
  refine Function.update_of_ne (fun e => ?_) _ _
  subst e
  exact (Finset.mem_sdiff.mp hb).2 (by decide)

theorem arr_after (c : Dev nD) (w : Fin 6) : (dat m c).arrAt w cfg0.N = V3 m c (Proc.devRef .tc (Pipeline.arrRef spec0 w)) := by
  match w with
  | 0 => exact (Dat.arrAt_in (dat m c) (0 : Fin 6) rfl _).trans (V3_of m c main_arg0 (by decide)).symm
  | 1 => exact (Dat.arrAt_in (dat m c) (1 : Fin 6) rfl _).trans (V3_of m c main_arg1 (by decide)).symm
  | 2 => exact (Dat.arrAt_in (dat m c) (2 : Fin 6) rfl _).trans (V3_of m c main_v10 (by decide)).symm
  | 3 => exact (Dat.arrAt_in (dat m c) (3 : Fin 6) rfl _).trans (V3_of m c main_v16 (by decide)).symm
  | 4 => exact (Dat.arrAt_in (dat m c) (4 : Fin 6) rfl _).trans (V3_of m c main_arg4 (by decide)).symm
  | 5 => exact (arrAt_out m c).trans (V3_out m c).symm

theorem stage_low (c : Dev nD) (w : Fin 6) (s : Fin (cfg0.win w).nbuf) : lv ((c : Thread nD τ), .dma ((cfg0.win w).sem s)) () ≤ 0 := by
  match w with
  | 0 | 1 | 2 | 3 | 4 | 5 => exact Nat.le_of_eq rfl

set_option backward.isDefEq.respectTransparency.types false in
/-- The call, entered with every array and all the protocol's resources, left with the result written. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kit rfl (fun c => (body m c).loose)
    (fun _ => 0) O₀ (fun c => (zero_add _).symm) (fun c => rfl) (fun _ => rfl) (fun c w => by unfold Dat.share; split <;> rfl)
    (V1 m) (V3 m) (fun c b hb => rest_eq m c b (Finset.mem_sdiff.mp hb).1)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => stage_low c w s, fun c t g i h => cut m c t g i h⟩
    (fun _ => iprop(emp))
    (fun _ w => rfl) (fun c w => arr_after m c w)

end Cert.BlockAttn

end
-- ==== Proof.Deal.lean ====
/-
The launch: every cell's invariant allocated, the transfers' cells dormant until the call opens them, the tokens dealt to the
devices that pay with them, the credit each device starts with; and the run of the whole program.
-/
module

public import proofs.«01_k».proof.Proof.Segment

@[expose] public section

noncomputable section

namespace Cert.BlockAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def barEmb : Dev nD ↪ GSem nD τ sig := ⟨fun c => cell (c, 0), fun a b h => congrArg (fun g : GSem nD τ sig => g.1.1) h⟩
theorem semAt_inj : Function.Injective semAt := by decide +kernel
def ownEmb : Dev nD × Fin 16 ↪ GSem nD τ sig :=
  ⟨fun p => cell (p.1, p.2.succ), fun a b h =>
    Prod.ext (congrArg (fun g : GSem nD τ sig => g.1.1) h) (Fin.succ_injective _ (semAt_inj (congrArg Prod.snd h)))⟩
abbrev barCells : Finset (GSem nD τ sig) := Finset.univ.map barEmb
abbrev ownCells : Finset (GSem nD τ sig) := Finset.univ.map ownEmb

/-- The tokens of the duties device c pays, in the order it is dealt them. -/
def tok (c : Dev nD) : Fin 15 → GSem nD τ sig × ℕ × Fin 4
  | 0 => (barCell (fwd c 1), 0, 1)
  | 1 => (barCell (fwd c 2), 0, 2)
  | 2 => (barCell (fwd c 3), 0, 3)
  | 3 => (sendCell c 0 3, 0, 0)
  | 4 => (recvCell (fwd c 3) 0 3, 0, 0)
  | 5 => (sendCell c 1 3, 0, 0)
  | 6 => (recvCell (fwd c 3) 1 3, 0, 0)
  | 7 => (sendCell c 0 2, 0, 0)
  | 8 => (recvCell (fwd c 2) 0 2, 0, 0)
  | 9 => (sendCell c 1 2, 0, 0)
  | 10 => (recvCell (fwd c 2) 1 2, 0, 0)
  | 11 => (sendCell c 0 1, 0, 0)
  | 12 => (recvCell (fwd c 1) 0 1, 0, 0)
  | 13 => (sendCell c 1 1, 0, 0)
  | 14 => (recvCell (fwd c 1) 1 1, 0, 0)
theorem tok_inj : Function.Injective fun p : Dev nD × Fin 15 => tok p.1 p.2 := by
  intro p q h
  revert h; revert p q
  decide +kernel
def tokens : Finset (GSem nD τ sig × ℕ × Fin 4) := Finset.univ.map ⟨fun p : Dev nD × Fin 15 => tok p.1 p.2, tok_inj⟩

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact Fin.succ_ne_zero p.2 (semAt_inj (congrArg Prod.snd h))

theorem cell_mem (p : Dev nD × Fin 17) : cell p ∈ (barCells ∪ ownCells : Finset (GSem nD τ sig)) := by
  obtain ⟨c, k⟩ := p
  refine Fin.cases ?_ (fun k => ?_) k
  · exact Finset.mem_union_left _ (Finset.mem_map_of_mem barEmb (Finset.mem_univ c))
  · exact Finset.mem_union_right _ (Finset.mem_map_of_mem ownEmb (Finset.mem_univ (c, k)))

/-- The launch element: the staging cells' part, and the protocol's. -/
def u₀ : UU :=
  (initOf (Pipeline.cells cfgs cellOf_inj) (Pipeline.launchToks cfgs cellOf_inj), launchOf barCells ownCells tokens)

/-- A resource held by device 0 alone. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells ownCells tokens)))

theorem tokens_eq : bigSep tokens (fun x => (dutyTok ER x.1 x.2.1 x.2.2 : sProp 𝕄)) ⊢ bigSep Finset.univ fun c : Dev nD => toks (F := F) c := by
  unfold tokens; rw [bigSep_map, bigSep_univ_prod]
  refine bigSep_mono fun c _ => ?_
  rw [bigSep_univ_eq_bigSepL [0, 1, 2, 3, 4, 5, 6, 7, 8, 9, 10, 11, 12, 13, 14] (by decide) (by decide)]
  unfold toks six
  show iprop(dutyTok ER (barCell (fwd c 1)) 0 1 ∗ dutyTok ER (barCell (fwd c 2)) 0 2 ∗ dutyTok ER (barCell (fwd c 3)) 0 3 ∗ dutyTok ER (sendCell c 0 3) 0 0 ∗ dutyTok ER (recvCell (fwd c 3) 0 3) 0 0 ∗ dutyTok ER (sendCell c 1 3) 0 0 ∗ dutyTok ER (recvCell (fwd c 3) 1 3) 0 0 ∗ dutyTok ER (sendCell c 0 2) 0 0 ∗ dutyTok ER (recvCell (fwd c 2) 0 2) 0 0 ∗ dutyTok ER (sendCell c 1 2) 0 0 ∗ dutyTok ER (recvCell (fwd c 2) 1 2) 0 0 ∗ dutyTok ER (sendCell c 0 1) 0 0 ∗ dutyTok ER (recvCell (fwd c 1) 0 1) 0 0 ∗ dutyTok ER (sendCell c 1 1) 0 0 ∗ dutyTok ER (recvCell (fwd c 1) 1 1) 0 0) ⊢ _
  iintro ⟨H0, H1, H2, H3, H4, H5, H6, H7, H8, H9, H10, H11, H12, H13, H14⟩
  isplitl [H0 H1 H2]
  · isplitl [H0]; · iexact H0
    isplitl [H1] <;> iassumption
  isplitl [H3 H4]; · isplitl [H3] <;> iassumption
  isplitl [H5 H6]; · isplitl [H5] <;> iassumption
  isplitl [H7 H8]; · isplitl [H7] <;> iassumption
  isplitl [H9 H10]; · isplitl [H9] <;> iassumption
  isplitl [H11 H12]; · isplitl [H11] <;> iassumption
  isplitl [H13] <;> iassumption

/-- The records every device consults, made from the invariants of all cells. -/
theorem records_intro (WQ WO) (κ : GSem nD τ sig → ℕ) :
    iprop((bigSep (barCells ∪ ownCells) fun g => cellInv ER (rd WQ WO) (κ g) g) ∗ bigSep barCells fun g => reached ER g 0)
      ⊢ (records (F := F) WQ WO fun p => κ (cell p) : sProp 𝕄) := by
  unfold records
  have h1 : (bigSep (barCells ∪ ownCells) fun g => (cellInv ER (rd WQ WO) (κ g) g : sProp 𝕄))
      ⊢ bigSep Finset.univ fun p : Dev nD × Fin 17 => cellInv ER (rd WQ WO) (κ (cell p)) (cell p) :=
    (bigSep_of_persistent Finset.univ _).trans (bigSep_mono fun p _ => bigSep_elim (cell_mem p))
  have h2 : (bigSep barCells fun g => (reached ER g 0 : sProp 𝕄)) ⊢ bigSep Finset.univ fun c => reached ER (barCell c) 0 :=
    Entails.of_eq (bigSep_map (s := Finset.univ) barEmb (Φ := fun g : GSem nD τ sig => (reached ER g 0 : sProp 𝕄)))
  iintro ⟨#HI, #HR⟩
  isplitr; · iapply h1; iexact HI
  iapply h2; iexact HR

/-! ## The launch credit -/

theorem recv_inj {c d : Dev nD} {t t' : Fin 2} {o o' : Fin 4} : recvCell c t o = recvCell d t' o' ↔ c = d ∧ t = t' ∧ o = o' := by
  revert c d t t' o o'; decide +kernel
theorem bar_inj {c d : Dev nD} : barCell c = barCell d ↔ c = d := by revert c d; decide +kernel
theorem bar_ne_recv {c d : Dev nD} {t : Fin 2} {o : Fin 4} : ¬ barCell c = recvCell d t o := by revert c d t o; decide +kernel
theorem recv_ne_bar {c d : Dev nD} {t : Fin 2} {o : Fin 4} : ¬ recvCell c t o = barCell d := by revert c d t o; decide +kernel
theorem fwd_iff (c d : Dev nD) (o : Fin 4) : c = fwd d o ↔ d = bwd c o := by revert c d o; decide

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  have h : ∀ d : Dev nD, O₀ d (barCell c) () = (if d = bwd c 3 then 1 else 0) + (if d = bwd c 2 then 1 else 0) + (if d = bwd c 1 then 1 else 0) := fun d => by
    unfold O₀ OR
    simp only [Pi.add_apply, Finsupp.add_apply, tallyAt_apply, bar_inj, bar_ne_recv, false_and, and_true, if_false, fwd_iff, Nat.zero_add]
  rw [Finset.sum_congr rfl fun d _ => h d, Finset.sum_add_distrib, Finset.sum_add_distrib, Finset.sum_ite_eq', Finset.sum_ite_eq', Finset.sum_ite_eq']
  simp
theorem credit_03 (c : Dev nD) :
    tallyOn (recvCell c 0 3) (launchCredit (Pipeline.owing O₀) 0 (recvCell c 0 3)) = (tallyAt (recvCell c 0 3) () N : CellTallies nD τ sig Unit) := by
  unfold tallyAt; refine congrArg _ (Finsupp.ext fun u => ?_); cases u
  rw [Pipeline.launchCredit_owing, Finsupp.single_eq_same]
  have h : ∀ d : Dev nD, O₀ d (recvCell c 0 3) () = if d = bwd c 3 then N else 0 := fun d => by
    unfold O₀ OR
    simp only [Pi.add_apply, Finsupp.add_apply, tallyAt_apply, recv_inj, recv_ne_bar, false_and, and_true, if_false, fwd_iff]
    simp
  rw [Finset.sum_congr rfl fun d _ => h d, Finset.sum_ite_eq']
  simp
theorem credit_13 (c : Dev nD) :
    tallyOn (recvCell c 1 3) (launchCredit (Pipeline.owing O₀) 0 (recvCell c 1 3)) = (tallyAt (recvCell c 1 3) () N : CellTallies nD τ sig Unit) := by
  unfold tallyAt; refine congrArg _ (Finsupp.ext fun u => ?_); cases u
  rw [Pipeline.launchCredit_owing, Finsupp.single_eq_same]
  have h : ∀ d : Dev nD, O₀ d (recvCell c 1 3) () = if d = bwd c 3 then N else 0 := fun d => by
    unfold O₀ OR
    simp only [Pi.add_apply, Finsupp.add_apply, tallyAt_apply, recv_inj, recv_ne_bar, false_and, and_true, if_false, fwd_iff]
    simp
  rw [Finset.sum_congr rfl fun d _ => h d, Finset.sum_ite_eq']
  simp
theorem credit_02 (c : Dev nD) :
    tallyOn (recvCell c 0 2) (launchCredit (Pipeline.owing O₀) 0 (recvCell c 0 2)) = (tallyAt (recvCell c 0 2) () N : CellTallies nD τ sig Unit) := by
  unfold tallyAt; refine congrArg _ (Finsupp.ext fun u => ?_); cases u
  rw [Pipeline.launchCredit_owing, Finsupp.single_eq_same]
  have h : ∀ d : Dev nD, O₀ d (recvCell c 0 2) () = if d = bwd c 2 then N else 0 := fun d => by
    unfold O₀ OR
    simp only [Pi.add_apply, Finsupp.add_apply, tallyAt_apply, recv_inj, recv_ne_bar, false_and, and_true, if_false, fwd_iff]
    simp
  rw [Finset.sum_congr rfl fun d _ => h d, Finset.sum_ite_eq']
  simp
theorem credit_12 (c : Dev nD) :
    tallyOn (recvCell c 1 2) (launchCredit (Pipeline.owing O₀) 0 (recvCell c 1 2)) = (tallyAt (recvCell c 1 2) () N : CellTallies nD τ sig Unit) := by
  unfold tallyAt; refine congrArg _ (Finsupp.ext fun u => ?_); cases u
  rw [Pipeline.launchCredit_owing, Finsupp.single_eq_same]
  have h : ∀ d : Dev nD, O₀ d (recvCell c 1 2) () = if d = bwd c 2 then N else 0 := fun d => by
    unfold O₀ OR
    simp only [Pi.add_apply, Finsupp.add_apply, tallyAt_apply, recv_inj, recv_ne_bar, false_and, and_true, if_false, fwd_iff]
    simp
  rw [Finset.sum_congr rfl fun d _ => h d, Finset.sum_ite_eq']
  simp
theorem credit_01 (c : Dev nD) :
    tallyOn (recvCell c 0 1) (launchCredit (Pipeline.owing O₀) 0 (recvCell c 0 1)) = (tallyAt (recvCell c 0 1) () N : CellTallies nD τ sig Unit) := by
  unfold tallyAt; refine congrArg _ (Finsupp.ext fun u => ?_); cases u
  rw [Pipeline.launchCredit_owing, Finsupp.single_eq_same]
  have h : ∀ d : Dev nD, O₀ d (recvCell c 0 1) () = if d = bwd c 1 then N else 0 := fun d => by
    unfold O₀ OR
    simp only [Pi.add_apply, Finsupp.add_apply, tallyAt_apply, recv_inj, recv_ne_bar, false_and, and_true, if_false, fwd_iff]
    simp
  rw [Finset.sum_congr rfl fun d _ => h d, Finset.sum_ite_eq']
  simp
theorem credit_11 (c : Dev nD) :
    tallyOn (recvCell c 1 1) (launchCredit (Pipeline.owing O₀) 0 (recvCell c 1 1)) = (tallyAt (recvCell c 1 1) () N : CellTallies nD τ sig Unit) := by
  unfold tallyAt; refine congrArg _ (Finsupp.ext fun u => ?_); cases u
  rw [Pipeline.launchCredit_owing, Finsupp.single_eq_same]
  have h : ∀ d : Dev nD, O₀ d (recvCell c 1 1) () = if d = bwd c 1 then N else 0 := fun d => by
    unfold O₀ OR
    simp only [Pi.add_apply, Finsupp.add_apply, tallyAt_apply, recv_inj, recv_ne_bar, false_and, and_true, if_false, fwd_iff]
    simp
  rw [Finset.sum_congr rfl fun d _ => h d, Finset.sum_ite_eq']
  simp

theorem creds (c : Dev nD) :
    (Pipeline.launchCred O₀ c : sProp 𝕄) ⊢ iprop(cred (tallyAt (barCell c) () 3) ∗ six (F := F) (fun t o => cred (tallyAt (recvCell c t o) () N))) := by
  unfold Pipeline.launchCred six
  have hs : ({SemLoc.reg barS, .dma (rS 0 3), .dma (rS 1 3), .dma (rS 0 2), .dma (rS 1 2), .dma (rS 0 1), .dma (rS 1 1)} : Finset (SemLoc sig)) ⊆ Finset.univ := Finset.subset_univ _
  refine (bigSep_subset hs).trans ?_
  rw [bigSep_insert (by decide +kernel), bigSep_insert (by decide +kernel), bigSep_insert (by decide +kernel), bigSep_insert (by decide +kernel), bigSep_insert (by decide +kernel), bigSep_insert (by decide +kernel), bigSep_singleton]
  dsimp only
  rw [← credit_bar, ← credit_03, ← credit_13, ← credit_02, ← credit_12, ← credit_01, ← credit_11]
  exact BI.Entails.refl _

/-! ## The program's run -/

/-- What a device holds beside its buffers before the call, and after it. -/
def E : Fin 2 → Dev nD → sProp 𝕄
  | 0 => fun c => iprop((∃ r, prngReg c r) ∗ Tk m c ∗ ∃ W, owes (c : Thread nD τ) (O₀ c) W)
  | 1 => fun c => iprop(semVal (barCell c) 0 ∗ ∃ W, owes (c : Thread nD τ) (0 : CellTallies nD τ sig Unit) W)

theorem arr_sub : Pipeline.arrRefs (τ := τ) spec0 ⊆ Pipeline.ucRefs τ sig := Pipeline.arrRefs_sub_ucRefs spec0 (by decide)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk m c ∗ ∃ Wd, owes (c : Thread nD τ) (0 + O₀ c) Wd)
  rw [zero_add, StableHlo.held_sub_split (c.tc : Thread nD τ) arr_sub (V1 m c)]
  show iprop(_ ∗ ((∃ r, prngReg c r) ∗ Tk m c ∗ ∃ W, owes (c : Thread nD τ) (O₀ c) W)) ⊢ _
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V3 m c) ∗ E m 1 c) := by
  show iprop(StableHlo.held (c.tc : Thread nD τ) (Pipeline.arrRefs (τ := τ) spec0) (V3 m c) ∗ (∃ r, prngReg c r)
    ∗ (StableHlo.held (c.tc : Thread nD τ) rest (V3 m c) ∗ emp) ∗ semVal (barCell c) 0 ∗ ∃ Wd, owes (c : Thread nD τ) (0 : CellTallies nD τ sig Unit) Wd) ⊢ _
  rw [StableHlo.held_sub_split (c.tc : Thread nD τ) arr_sub (V3 m c)]
  show _ ⊢ iprop(_ ∗ (semVal (barCell c) 0 ∗ ∃ W, owes (c : Thread nD τ) (0 : CellTallies nD τ sig Unit) W))
  iintro ⟨Ha, -, ⟨Hr, -⟩, Hb, HO⟩
  isplitl [Ha Hr]; · isplitl [Ha] <;> iassumption
  isplitl [Hb] <;> iassumption

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]
theorem unscoped_eq : ∀ sm : SemLoc sig, sm.isScoped .tc = false → sm = .reg barS := by decide +kernel

/-- What device c keeps of the launch for itself. -/
def mine (c : Dev nD) : sProp 𝕄 :=
  iprop((∃ r, prngReg c r) ∗ (cred (tallyAt (barCell c) () 3) ∗ six (F := F) (fun t o => cred (tallyAt (recvCell c t o) () N))) ∗ ∃ W, owes (c : Thread nD τ) (O₀ c) W)
/-- What the protocol deals it. -/
def share (c : Dev nD) : sProp 𝕄 :=
  iprop(atPos ER (barCell c) 0 ∅ 0 ∗ (bigSep Finset.univ fun k : Fin 16 => openTok ER (cell (c, k.succ))) ∗ toks (F := F) c)

theorem E0_intro (κ : GSem nD τ sig → ℕ) (c : Dev nD) :
    iprop(records (inp m c).WQ (inp m c).WO (fun p => κ (cell p)) ∗ (share (F := F) c ∗ mine (F := F) c)) ⊢ E m 0 c := by
  show _ ⊢ iprop((∃ r, prngReg c r) ∗ Tk m c ∗ ∃ W, owes (c : Thread nD τ) (O₀ c) W)
  unfold share mine Tk
  iintro ⟨#HR, ⟨Ha, Ho, Ht⟩, Hp, ⟨Hcb, Hcr⟩, HO⟩
  isplitl [Hp]; · iexact Hp
  isplitl [Ha Ho Ht Hcb Hcr]
  · isplitl [Ha Ho Ht]
    · iexists (fun p => κ (cell p))
      isplitr; · iexact HR
      isplitl [Ha]; · iexact Ha
      isplitl [Ho] <;> iassumption
    isplitl [Hcb] <;> iassumption
  iexact HO

theorem hE0 : iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(mine (F := F) c ∗ (semVal (barCell c) 0 ∗ G (F := F) c)) : sProp 𝕄) := by
    rw [unscopedSems0_eq]
    unfold mine
    iintro ⟨Hus, HO, Hcr, Hp, HG⟩
    ihave Hc := (creds (F := F) c) $$ Hcr
    isplitl [HO Hp Hc]
    · isplitl [Hp]; · iexists (ρ c); iexact Hp
      isplitl [Hc]; · iexact Hc
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Fin 16 => (openTok ER (cell (c, k.succ)) : sProp 𝕄)) :=
    Entails.of_eq (by rw [bigSep_map, bigSep_univ_prod]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G (F := F) c))
      ⊢ (iprop((bigSep Finset.univ fun c : Dev nD => mine (F := F) c) ∗ (bigSep Finset.univ fun c : Dev nD => semVal (barCell c) 0) ∗ bigSep Finset.univ fun c : Dev nD => G (F := F) c) : sProp 𝕄) from by
        rw [← bigSep_sep', ← bigSep_sep']; exact bigSep_mono fun c _ => hcore c) $$ H
  icases H' with ⟨HB, Hv, HG⟩
  ihave Hu := (show bigSep Finset.univ (G (F := F)) ⊢ BI.own (ER (launchOf barCells ownCells tokens)) from
    Entails.of_eq (bigSep_atZero (F := F) (BI.own (ER (launchOf barCells ownCells tokens))))) $$ HG
  imod (Rounds.fund_launch ER (rd (inp m 0).WQ (inp m 0).WO) cells_disjoint (fun g _ h => h) tokens) $$ [Hv Hu] with ⟨%κ, -, #Hinv, #Hr, Hat, Hopen, Htok⟩
  · isplitl [Hv]
    · iapply hv $$ Hv
    · iexact Hu
  imodintro
  have hfin : iprop(records (inp m 0).WQ (inp m 0).WO (fun p => κ (cell p)) ∗ bigSep Finset.univ fun c : Dev nD => iprop(share (F := F) c ∗ mine (F := F) c)) ⊢ bigSep Finset.univ (E m 0) :=
    bigSep_with_persistent fun c _ => E0_intro m κ c
  iapply hfin
  isplitr
  · have hr := records_intro (F := F) (inp m 0).WQ (inp m 0).WO κ
    iapply hr
    isplitr; · iexact Hinv
    iexact Hr
  rw [bigSep_sep']
  isplitr [HB]
  · unfold share
    rw [bigSep_sep', bigSep_sep']
    isplitl [Hat]; · iapply hat $$ Hat
    isplitl [Hopen]; · iapply hop $$ Hopen
    have ht := tokens_eq (F := F)
    iapply ht $$ Htok
  · iexact HB

end Cert.BlockAttn

end
-- ==== Proof.Run.lean ====
/-
The run of the whole program on the four devices: every execution ends, the arguments as they were, the result holding what
the body leaves, every semaphore at zero.
-/
module

public import proofs.«01_k».proof.Proof.Deal

@[expose] public section

noncomputable section

namespace Cert.BlockAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- A buffer the run leaves as it was. -/
theorem V3_same (c : Dev nD) (r : Ref sig .tc) (h : r ∉ ([main_v17] : List (Ref sig .tc))) (h' : r ∉ hostOps0_W) :
    V3 m c r = m ((c : Thread nD τ).loc r) :=
  (V3_of m c r h).trans ((V1_of m c r h').trans rfl)

theorem mem_uc (r : Ref sig .tc) (h : ¬ r.isScoped) : Proc.devRef .tc r ∈ Pipeline.ucRefs τ sig := by
  refine Finset.mem_filter.mpr ⟨StableHlo.devRef_mem_tcRefs r, ?_⟩
  simpa using h

/-- What holds of device c at the end. -/
def Ends (c : Dev nD) (s : MemSt nD τ sig (Elt F)) : Prop :=
  (s.mem ((c.tc : Thread nD τ).loc main_v17) = outV (inp m c) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

theorem sem_zero {s : MemSt nD τ sig (Elt F)}
    (hs : ∀ g' : GSem nD τ sig, (g'.1.2 ≠ .tc ∨ g'.2.isScoped .tc = true) → s.sem g' = 0) (hb : ∀ c : Dev nD, s.sem (barCell c) = 0) : s.sem = fun _ => 0 := by
  funext g
  obtain ⟨⟨d, p⟩, sm⟩ := g
  by_cases hp : p = .tc
  · subst hp
    cases h : sm.isScoped .tc with
    | true => exact hs _ (Or.inr h)
    | false => obtain rfl := unscoped_eq sm h; exact hb d
  · exact hs _ (Or.inl hp)

set_option backward.isDefEq.respectTransparency.types false in
/-- THE RUN. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact BI.Entails.refl _)
    (fun c => by simp only [segs, Pipeline.Seg.pipes_host, Pipeline.Seg.pipes_region, Pipeline.Seg.pipes_nil]; decide) O₀ L_of_ne (G (F := F)) u₀
    (by
      unfold u₀ G
      iintro Hu
      ihave H := (ownU_pair _ _) $$ Hu
      icases H with ⟨HP, HX⟩
      imodintro
      isplitl [HP]; · iexact HP
      rw [bigSep_atZero]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m c) ∗ semVal (barCell c) 0))
    (hch := fun c => ⟨BI.Entails.refl _, reg_pre m c, (reg_post m c).trans ?_⟩)
    (hinit := ?_) (QY := fun c s => Ends m c s ∧ s.sem (barCell c) = 0)
    (hfin := fun c s' => ?_) (hQ := fun s h hs => ⟨fun c => (h c).1, sem_zero hs fun c => (h c).2⟩)
  · show iprop(StableHlo.held (c : Thread nD τ) (Pipeline.ucRefs τ sig) (V3 m c) ∗ (semVal (barCell c) 0 ∗ ∃ W, owes (c : Thread nD τ) (0 : CellTallies nD τ sig Unit) W)) ⊢ _
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    have h0 := hE0 m ρ
    imod h0 $$ [Hr Hla] with HE
    · isplitl [Hr]; · iexact Hr
      iexact Hla
    imodintro
    rw [bigSep_sep']
    isplitl [Hh]; · iexact Hh
    iexact HE
  · try dsimp only
    unfold StableHlo.held
    iintro ⟨⟨Hh, Hb⟩, HSI⟩
    icombine HSI Hb gives %hb
    ihave Hr := (pointsTo_read_all (Pipeline.ucRefs τ sig) (fun b => ((c : Thread nD τ).1, b)) (V3 m c) s') $$ [Hh HSI]
    · isplitl [Hh] <;> iassumption
    icases Hr with ⟨%h, HSI⟩
    imodintro
    isplitr
    · ipureintro
      exact ⟨⟨(h (Proc.devRef .tc main_v17) (mem_uc main_v17 (by decide))).trans (V3_out m c),
        (h (Proc.devRef .tc main_arg0) (mem_uc main_arg0 (by decide))).trans (V3_same m c main_arg0 (by decide) (by decide)),
        (h (Proc.devRef .tc main_arg1) (mem_uc main_arg1 (by decide))).trans (V3_same m c main_arg1 (by decide) (by decide)),
        (h (Proc.devRef .tc main_arg2) (mem_uc main_arg2 (by decide))).trans (V3_same m c main_arg2 (by decide) (by decide)),
        (h (Proc.devRef .tc main_arg3) (mem_uc main_arg3 (by decide))).trans (V3_same m c main_arg3 (by decide) (by decide)),
        (h (Proc.devRef .tc main_arg4) (mem_uc main_arg4 (by decide))).trans (V3_same m c main_arg4 (by decide) (by decide))⟩, by simpa using hb⟩
    iexact HSI

end Cert.BlockAttn

end
-- ==== Proof.RefStages.lean ====
/-
The reference's result, in stages: the block mask, the masked scores, their exponentials after the row maximum is
subtracted, the weights, and the result.
-/
module

public import proofs.«01_k».proof.Proof.Gen.ReferenceIdeal.Run
public import Idealize.ShloMosaic.Lib.Pointwise

@[expose] public section

noncomputable section

namespace Cert.BlockAttn.Ref

open Cert.ReferenceIdeal Cert.ReferenceIdeal.Gen
open Idealize.ShloMosaic Idealize.ShloMosaic.TcCoe

/-- The block number of a position: the floor division by 64, as the host spells it. -/
def blockOf : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The mask: the block of the key is not after the block of the query. -/
def mask : IVec S256x256 1 :=
  cmpi .sle (broadcastInDim S256x256 ![0, 1] bcast_S1x256_S256x256_0_1 (broadcastInDim S1x256 ![1] bcast_S256_S1x256_1 blockOf))
    (broadcastInDim S256x256 ![0, 1] bcast_S256x1_S256x256_0_1 (broadcastInDim S256x1 ![0] bcast_S256_S256x1_0 blockOf))

/-- Which rows keep at least one key. -/
def rowKeep : IVec S256 1 := Host.reduce IntOp.ori mask (constantI S_ 1 0#1) reducesTo_S256x256_S256_d1 h_S_

variable {F : FTy → Type} [FloatOps F]

/-- The masked scores. -/
def scores (x : FVec F S8x256x512 .bf16) (wq : FVec F S512x1024 .bf16) (k : FVec F S8x256x16x64 .bf16) : FVec F S8x16x256x256 .f32 :=
  select (broadcastInDim S8x16x256x256 ![0, 1, 2, 3] bcast_S1x1x256x256_S8x16x256x256_0_1_2_3 (broadcastInDim S1x1x256x256 ![2, 3] bcast_S256x256_S1x1x256x256_2_3 mask))
    (mulf (Host.dotGeneral dot_S8x256x16x64_S8x256x16x64_S8x16x256x256_3_3_1_1_02_02 none
        (shapeCast _ (Host.dotGeneral dot_S8x256x512_S512x1024_S8x256x1024_2_0_01_1_n_n none (extf .f32 x bitsLt_bf16_f32) (extf .f32 wq bitsLt_bf16_f32)) shapeCasts_S8x256x1024_S8x256x16x64)
        (extf .f32 k bitsLt_bf16_f32))
      (broadcastInDim S8x16x256x256 ![] bcast_S_S8x16x256x256 (constant S_ .f32 0x3E000000#32)))
    (broadcastInDim S8x16x256x256 ![] bcast_S_S8x16x256x256 (id (constant S_ .f32 0xCE6E6B28#32)))

/-- The exponentials of the scores less the maximum of their row. -/
def exps (s : FVec F S8x16x256x256 .f32) : FVec F S8x16x256x256 .f32 :=
  Host.exp (subf s (broadcastInDim S8x16x256x256 ![0, 1, 2, 3] bcast_S8x16x256x1_S8x16x256x256_0_1_2_3 (broadcastInDim S8x16x256x1 ![0, 1, 2] bcast_S8x16x256_S8x16x256x1_0_1_2
    (Host.reduce FloatOps.maximumf s (constant S_ .f32 0xFF800000#32) reducesTo_S8x16x256x256_S8x16x256_d3 h_S_))))

/-- The weights. -/
def weights (e : FVec F S8x16x256x256 .f32) : FVec F S8x16x256x256 .f32 :=
  select (broadcastInDim S8x16x256x256 ![0, 1, 2, 3] bcast_S1x1x256x1_S8x16x256x256_0_1_2_3 (broadcastInDim S1x1x256x1 ![2] bcast_S256_S1x1x256x1_2 rowKeep))
    (Host.divf e (broadcastInDim S8x16x256x256 ![0, 1, 2, 3] bcast_S8x16x256x1_S8x16x256x256_0_1_2_3
      (select (broadcastInDim S8x16x256x1 ![0, 1, 2, 3] bcast_S1x1x256x1_S8x16x256x1_0_1_2_3 (broadcastInDim S1x1x256x1 ![2] bcast_S256_S1x1x256x1_2 rowKeep))
        (broadcastInDim S8x16x256x1 ![0, 1, 2] bcast_S8x16x256_S8x16x256x1_0_1_2 (Host.reduceAdd e (constant S_ .f32 0x00000000#32) reducesTo_S8x16x256x256_S8x16x256_d3 h_S_))
        (broadcastInDim S8x16x256x1 ![] bcast_S_S8x16x256x1 (id (constant S_ .f32 0x3F800000#32))))))
    (broadcastInDim S8x16x256x256 ![] bcast_S_S8x16x256x256 (id (constant S_ .f32 0x00000000#32)))

/-- The result: the weights over the values, all heads side by side, times the output matrix. -/
def result (w : FVec F S8x16x256x256 .f32) (v : FVec F S8x256x16x64 .bf16) (wo : FVec F S1024x512 .bf16) : FVec F S8x256x512 .f32 :=
  Host.dotGeneral dot_S8x256x1024_S1024x512_S8x256x512_2_0_01_1_n_n none
    (shapeCast _ (transpose S8x256x16x64 [0, 3, 1, 2] (Host.dotGeneral dot_S8x256x16x64_S8x16x256x256_S8x16x64x256_1_3_3_2_02_01 none (extf .f32 v bitsLt_bf16_f32) w)
      transposes_S8x16x64x256_S8x256x16x64_0_3_1_2) shapeCasts_S8x256x16x64_S8x256x1024) (extf .f32 wo bitsLt_bf16_f32)

/-- The composed term of the reference's run is these stages. -/
theorem res_eq (m : (ℓ : Loc nD τ sig) → Buf (Elt F) ℓ) (c : Dev nD) :
    Value.res_out0 m c = result (weights (exps (scores (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

end Cert.BlockAttn.Ref
-- ==== Proof.Scalars.lean ====
/-
Arithmetic of the extended reals, as far as the attention needs it: finite values and what keeps them finite, a positive
factor taken through a sum, and the softmax with and without the subtraction of a maximum.
-/
module

public import Idealize.ShloMosaic.PureOps.Ideal

@[expose] public section

noncomputable section

namespace Cert.BlockAttn

open Idealize.ShloMosaic
open scoped BigOperators

/-- A finite value. -/
def IsFin (v : EReal) : Prop := ∃ r : ℝ, v = (r : EReal)

theorem IsFin.coe (r : ℝ) : IsFin (r : EReal) := ⟨r, rfl⟩
theorem IsFin.add {a b : EReal} (ha : IsFin a) (hb : IsFin b) : IsFin (a + b) := by
  obtain ⟨a, rfl⟩ := ha
  obtain ⟨b, rfl⟩ := hb
  exact ⟨a + b, (EReal.coe_add a b).symm⟩
theorem IsFin.mul {a b : EReal} (ha : IsFin a) (hb : IsFin b) : IsFin (a * b) := by
  obtain ⟨a, rfl⟩ := ha
  obtain ⟨b, rfl⟩ := hb
  exact ⟨a * b, (EReal.coe_mul a b).symm⟩
theorem IsFin.max {a b : EReal} (ha : IsFin a) (hb : IsFin b) : IsFin (max a b) := by
  rcases max_choice a b with h | h <;> rw [h] <;> assumption
theorem IsFin.sum {ι : Type} [Fintype ι] {f : ι → EReal} (h : ∀ i, IsFin (f i)) : IsFin (∑ i, f i) := by
  classical
  induction (Finset.univ : Finset ι) using Finset.induction_on with
  | empty => exact ⟨0, by simp⟩
  | insert i s hi ih => rw [Finset.sum_insert hi]; exact (h i).add ih

/-- A value whose absolute value is below `⊤` is finite. -/
theorem fin_of_abs {v : EReal} (h : max v (-v) < ⊤) : IsFin v := by
  induction v with
  | bot => exact absurd h (by simp)
  | top => exact absurd h (by simp)
  | coe r => exact ⟨r, rfl⟩

/-- A finite nonnegative factor goes through a sum. -/
theorem sum_mul_coe {ι : Type} [Fintype ι] (f : ι → EReal) {c : ℝ} (hc : 0 ≤ c) : (∑ i, f i) * (c : EReal) = ∑ i, f i * (c : EReal) := by
  classical
  induction (Finset.univ : Finset ι) using Finset.induction_on with
  | empty => simp
  | insert i s hi ih =>
    rw [Finset.sum_insert hi, Finset.sum_insert hi, ← ih, mul_comm (f i + _), EReal.left_distrib_of_nonneg_of_ne_top (EReal.coe_nonneg.mpr hc) (EReal.coe_ne_top c),
      mul_comm (c : EReal), mul_comm (c : EReal)]

/-- A sum of reals, read in the extended reals. -/
theorem sum_coe {ι : Type} [Fintype ι] (f : ι → ℝ) : (∑ i, (f i : EReal)) = ((∑ i, f i : ℝ) : EReal) := by
  classical
  induction (Finset.univ : Finset ι) using Finset.induction_on with
  | empty => simp
  | insert i s hi ih => rw [Finset.sum_insert hi, Finset.sum_insert hi, ih, ← EReal.coe_add]

/-- Division by a positive real is multiplication with its inverse. -/
theorem div_coe_pos (a : EReal) {y : ℝ} (hy : 0 < y) : Ideal.div a (y : EReal) = a * ((y⁻¹ : ℝ) : EReal) := by
  unfold Ideal.div
  rw [if_neg (by exact_mod_cast hy.ne'), EReal.coe_inv]

/-- A row of the softmax, weighed over arbitrary values: subtracting a finite `M` from the scores changes nothing, and the
    division may come after the weighing. -/
theorem softmax_row {ι : Type} [Fintype ι] [Nonempty ι] (s : ι → EReal) (hs : ∀ i, IsFin (s i)) (M : EReal) (hM : IsFin M) (V : ι → EReal) :
    Ideal.div (∑ j, Ideal.exp (s j) * V j) (∑ j, Ideal.exp (s j))
      = ∑ j, V j * Ideal.div (Ideal.exp (s j - M)) (∑ i, Ideal.exp (s i - M)) := by
  choose t ht using hs
  obtain ⟨μ, rfl⟩ := hM
  have h1 : ∀ j, Ideal.exp (s j) = ((Real.exp (t j) : ℝ) : EReal) := fun j => by rw [ht j]; rfl
  have h2 : ∀ j, Ideal.exp (s j - (μ : EReal)) = ((Real.exp (t j - μ) : ℝ) : EReal) := fun j => by rw [ht j, ← EReal.coe_sub]; rfl
  have p1 : 0 < ∑ j, Real.exp (t j) := Finset.sum_pos (fun j _ => Real.exp_pos _) Finset.univ_nonempty
  have p2 : 0 < ∑ j, Real.exp (t j - μ) := Finset.sum_pos (fun j _ => Real.exp_pos _) Finset.univ_nonempty
  simp only [h1, h2]
  rw [sum_coe, sum_coe, div_coe_pos _ p1, sum_mul_coe _ (inv_nonneg.mpr p1.le)]
  refine Finset.sum_congr rfl fun j _ => ?_
  rw [div_coe_pos _ p2, ← EReal.coe_mul, mul_right_comm, ← EReal.coe_mul, mul_comm]
  congr 2
  have hsum : ∑ i, Real.exp (t i - μ) = (∑ i, Real.exp (t i)) * (Real.exp μ)⁻¹ := by
    rw [Finset.sum_mul]
    exact Finset.sum_congr rfl fun i _ => by rw [Real.exp_sub, div_eq_mul_inv]
  rw [hsum, Real.exp_sub, div_eq_mul_inv, mul_inv, inv_inv]
  have := Real.exp_pos μ
  field_simp

/-- The maximum of finitely many finite values, folded from `⊥`, is finite. -/
theorem fin_fold_max {ι : Type} [Fintype ι] [Nonempty ι] (f : ι → EReal) (hf : ∀ i, IsFin (f i)) : IsFin (Finset.univ.fold max ⊥ f) := by
  classical
  have key : ∀ s : Finset ι, s.Nonempty → IsFin (s.fold max ⊥ f) := by
    intro s hs
    induction hs using Finset.Nonempty.cons_induction with
    | singleton i => rw [Finset.fold_singleton, max_eq_left bot_le]; exact hf i
    | cons i s hi hs ih => rw [Finset.fold_cons hi]; exact (hf i).max ih
  exact key _ Finset.univ_nonempty

end Cert.BlockAttn
-- ==== Proof.RefValue.lean ====
/-
The reference's result at an index: over every position of the 1024 columns of the heads the softmax row of that head,
weighed over the values, times the entry of the output matrix. The maximum that the reference subtracts drops out, since
the scores are finite.
-/
module

public import proofs.«01_k».proof.Proof.RefStages
public import proofs.«01_k».proof.Proof.Scalars
public import Idealize.ShloMosaic.Lib.Decide

@[expose] public section

set_option maxRecDepth 16384

noncomputable section

namespace Cert.BlockAttn

open Idealize.ShloMosaic
open scoped BigOperators

/-- Whether query `i` sees key `j`: the block of `j` is not after the block of `i`. -/
def keep (i j : Fin 256) : BitVec 1 := IntOp.cmpi CmpIPredicate.sle (BitVec.ofNat 32 (j.val / 64)) (BitVec.ofNat 32 (i.val / 64))

/-- Every query sees the first key. -/
theorem keep_zero (i : Fin 256) : keep i 0 = 1#1 := by
  revert i
  decide +kernel

/-- The score that stands for a key that is not seen. -/
def low : EReal := Ideal.ofBits FTy.f32 0xCE6E6B28#32
/-- The scale. -/
def eighth : EReal := Ideal.ofBits FTy.f32 0x3E000000#32

theorem low_fin : IsFin low := by
  unfold low Ideal.ofBits Ideal.ieee
  refine ⟨_, (if_neg ?_).trans (if_neg ?_)⟩ <;> decide
theorem eighth_real : ∃ r : ℝ, 0 < r ∧ eighth = (r : EReal) := by
  unfold eighth Ideal.ofBits Ideal.ieee
  refine ⟨_, ?_, (if_neg ?_).trans (if_neg ?_)⟩
  rotate_left
  · decide
  · decide
  · refine mul_pos (mul_pos ?_ ?_) (zpow_pos (by norm_num) _)
    · rw [if_neg (by decide)]; exact one_pos
    · exact Nat.cast_pos.mpr (by positivity)
theorem bot_bits : Ideal.ofBits FTy.f32 0xFF800000#32 = ⊥ := by
  unfold Ideal.ofBits Ideal.ieee
  exact (if_pos (by decide)).trans ((if_pos (by decide)).trans (if_pos (by decide)))

/-- A choice between two finite values is finite. -/
theorem IsFin.select {a b : EReal} (c : BitVec 1) (ha : IsFin a) (hb : IsFin b) : IsFin (Scalar.select c a b) := by
  unfold Scalar.select
  split <;> assumption

namespace Ref

open Cert.ReferenceIdeal Cert.ReferenceIdeal.Gen Idealize.ShloMosaic.TcCoe

theorem blockOf_apply (i : Fin 256) : blockOf (ix1 i) = BitVec.ofNat 32 (i.val / 64) := by
  pointwise [blockOf]
  revert i
  decide +kernel

theorem mask_apply (i j : Fin 256) : mask (ix2 i j) = keep i j := by
  pointwise [mask]
  rw [blockOf_apply, blockOf_apply]
  rfl

/-- A fold of `or` over a set with a member that is one. -/
theorem fold_or_one (s : Finset (Fin 256)) (f : Fin 256 → BitVec 1) (j : Fin 256) (hj : j ∈ s) (h : f j = 1#1) : s.fold IntOp.ori (0#1) f = 1#1 := by
  rw [← Finset.insert_erase hj, Finset.fold_insert (Finset.notMem_erase j s), h]
  generalize Finset.fold IntOp.ori (0#1) f (s.erase j) = y
  revert y
  decide

theorem rowKeep_apply (i : Fin 256) : rowKeep (ix1 i) = 1#1 := by
  pointwise [rowKeep]
  exact fold_or_one _ _ 0 (Finset.mem_univ _) ((mask_apply i 0).trans (keep_zero i))

variable (x : FVec Ideal S8x256x512 .bf16) (wq : FVec Ideal S512x1024 .bf16) (k v : FVec Ideal S8x256x16x64 .bf16) (wo : FVec Ideal S1024x512 .bf16)

/-- The masked score of query `i` against key `j` in head `h` of batch entry `b`. -/
def score (b : Fin 8) (h : Fin 16) (i j : Fin 256) : EReal :=
  Scalar.select (keep i j)
    ((∑ d : Fin 64, (∑ t : Fin 512, x (ix3 b i t) * wq (ix2 t ⟨h.val * 64 + d.val, by omega⟩)) * k (ix4 b j h d)) * eighth) low

theorem scores_apply (b : Fin 8) (h : Fin 16) (i j : Fin 256) : scores x wq k (ix4 b h i j) = score x wq k b h i j := by
  pointwise [scores]
  rw [mask_apply]
  rfl

/-- Finite inputs have finite scores. -/
theorem score_fin (hx : ∀ i, IsFin (x i)) (hw : ∀ i, IsFin (wq i)) (hk : ∀ i, IsFin (k i)) (b : Fin 8) (h : Fin 16) (i j : Fin 256) : IsFin (score x wq k b h i j) := by
  obtain ⟨r, -, hr⟩ := eighth_real
  exact ((IsFin.sum fun d => (IsFin.sum fun t => (hx _).mul (hw _)).mul (hk _)).mul ⟨r, hr⟩).select _ low_fin

/-- A row of the exponentials. -/
theorem exps_apply (s : FVec Ideal S8x16x256x256 .f32) (b : Fin 8) (h : Fin 16) (i j : Fin 256) :
    exps s (ix4 b h i j) = Ideal.exp (s (ix4 b h i j) - Finset.univ.fold max ⊥ fun j' => s (ix4 b h i j')) := by
  pointwise [exps]
  rw [bot_bits]

/-- A weight: every row keeps a key, so nothing is replaced. -/
theorem weights_apply (e : FVec Ideal S8x16x256x256 .f32) (b : Fin 8) (h : Fin 16) (i j : Fin 256) :
    weights e (ix4 b h i j) = Ideal.div (e (ix4 b h i j)) (∑ j', e (ix4 b h i j')) := by
  pointwise [weights]
  rw [rowKeep_apply]
  rfl

theorem result_apply (w : FVec Ideal S8x16x256x256 .f32) (b : Fin 8) (i : Fin 256) (n : Fin 512) :
    result w v wo (ix3 b i n)
      = ∑ e : Fin 1024, (∑ j : Fin 256, v (ix4 b j ⟨e.val / 64, by omega⟩ ⟨e.val % 64, by omega⟩) * w (ix4 b ⟨e.val / 64, by omega⟩ i j)) * wo (ix2 e n) := by
  pointwise [result]

/-- The attention of query `i` in head `h`, at component `d`: the exponentials of the scores over the values, divided by their sum. -/
def ctx (b : Fin 8) (h : Fin 16) (i : Fin 256) (d : Fin 64) : EReal :=
  Ideal.div (∑ j : Fin 256, Ideal.exp (score x wq k b h i j) * v (ix4 b j h d)) (∑ j : Fin 256, Ideal.exp (score x wq k b h i j))

/-- The reference's result at an index, for finite queries and keys. -/
theorem out_apply (hx : ∀ i, IsFin (x i)) (hw : ∀ i, IsFin (wq i)) (hk : ∀ i, IsFin (k i)) (b : Fin 8) (i : Fin 256) (n : Fin 512) :
    result (weights (exps (scores x wq k))) v wo (ix3 b i n)
      = ∑ e : Fin 1024, ctx x wq k v b ⟨e.val / 64, by omega⟩ i ⟨e.val % 64, by omega⟩ * wo (ix2 e n) := by
  rw [result_apply]
  refine Finset.sum_congr rfl fun e _ => congrArg (· * wo (ix2 e n)) ?_
  have hf := fun j => score_fin x wq k hx hw hk b ⟨e.val / 64, by omega⟩ i j
  refine Eq.trans (Finset.sum_congr rfl fun j _ => congrArg (v _ * ·) ?_) (softmax_row _ hf _ (fin_fold_max _ hf) _).symm
  rw [weights_apply]
  simp only [exps_apply, scores_apply]

end Ref

end Cert.BlockAttn
-- ==== Proof.KernelValue.lean ====
/-
The kernel's result on one device at an index: the mask, the queries, the exponentials and the context of a head, the
product with the head's rows of `Wo`, and the sum over the four blocks.
-/
module

public import proofs.«01_k».proof.Proof.RefValue
public import proofs.«01_k».proof.Proof.Values

@[expose] public section

set_option maxRecDepth 16384

noncomputable section

namespace Cert.BlockAttn

open Cert.KernelIdeal Cert.KernelIdeal.Gen
open Idealize.ShloMosaic Idealize.ShloMosaic.TcCoe
open scoped BigOperators

/-- The kernel's mask is the reference's. -/
theorem maskV_apply (i j : Fin 256) : maskV (ix2 i j) = keep i j := by
  pointwise [maskV, k0_pay6, k0_pay3, k0_pay4, k0_pay5]
  unfold keep
  refine congrArg₂ (IntOp.cmpi _) ?_ ?_
  · clear i
    revert j
    decide +kernel
  · clear j
    revert i
    decide +kernel

theorem qOf_apply (wq : FVec Ideal S512x256 .bf16) (x : Vec Ideal S1x256x512 .bf16) (i e : Fin 256) :
    qOf wq x (ix2 i e) = (∑ t : Fin 512, x (ix3 0 i t) * wq (ix2 t e)) * eighth := by
  pointwise [qOf]
  rfl

theorem headExp_apply (h : Fin 4) (q : FVec Ideal S256x256 .bf16) (k : Vec Ideal S1x1x256x64 .bf16) (i j : Fin 256) :
    headExp h q k (ix2 i j)
      = Ideal.exp (Scalar.select (keep i j) (∑ d : Fin 64, q (ix2 i ⟨64 * h.val + d.val, by omega⟩) * k (ix4 0 0 j d)) low) := by
  pointwise [headExp]
  rw [maskV_apply]
  rfl

theorem headCtx_apply (h : Fin 4) (q : FVec Ideal S256x256 .bf16) (k v : Vec Ideal S1x1x256x64 .bf16) (i : Fin 256) (d : Fin 64) :
    headCtx h q k v (ix2 i d)
      = Ideal.div (∑ j : Fin 256, headExp h q k (ix2 i j) * v (ix4 0 0 j d)) (∑ j : Fin 256, headExp h q k (ix2 i j)) := by
  pointwise [headCtx]

theorem headOut_apply (h : Fin 4) (x : FVec Ideal S256x64 .bf16) (wo : FVec Ideal S256x512 .bf16) (i : Fin 256) (n : Fin 512) :
    headOut h x wo (ix2 i n) = ∑ d : Fin 64, x (ix2 i d) * wo (ix2 ⟨64 * h.val + d.val, by omega⟩ n) := by
  pointwise [headOut]

theorem contrib_apply (x : Fin 4 → FVec Ideal S256x64 .bf16) (wo : FVec Ideal S256x512 .bf16) (i : Fin 256) (n : Fin 512) :
    contrib x wo (ix2 i n) = ∑ h : Fin 4, ∑ d : Fin 64, x h (ix2 i d) * wo (ix2 ⟨64 * h.val + d.val, by omega⟩ n) := by
  rw [Fin.sum_univ_four]
  simp only [← headOut_apply]
  exact (add_assoc _ _ _).symm

theorem put_apply (x : FVec Ideal S256x512 .f32) (i : Fin 256) (n : Fin 512) : put x (ix3 0 i n) = x (ix2 i n) := by
  pointwise [put]

theorem addTo_apply (a : Vec Ideal S1x256x512 .f32) (x : FVec Ideal S256x512 .f32) (i : Fin 256) (n : Fin 512) :
    addTo a x (ix3 0 i n) = a (ix3 0 i n) + x (ix2 i n) := by
  pointwise [addTo, put]

/-! ## The windows of the keys and the values -/

theorem off3_eq (c : Dev nD) (o h : Fin 4) : k0_off3 c (BitVec.ofNat 32 o.val) (BitVec.ofNat 32 h.val) = ![4 * (fwd c o).val + h.val, 0, 0, 0] := by
  revert c o h; decide +kernel
theorem off4_eq (c : Dev nD) (o h : Fin 4) : k0_off4 c (BitVec.ofNat 32 o.val) (BitVec.ofNat 32 h.val) = ![4 * (fwd c o).val + h.val, 1, 0, 0] := by
  revert c o h; decide +kernel

/-- The head of the whole array that is head `h` of block `j`. -/
def headAt (j h : Fin 4) : Fin 16 := ⟨4 * j.val + h.val, by omega⟩

/-- Loading a head's window at an index. -/
theorem ldK_apply (K : S16x2x256x64.Idx → EReal) (c : Dev nD) (o : Fin 4) (b : Fin 2) (h : Fin 4) (j : Fin 256) (d : Fin 64) :
    ldK (F := Ideal) K c o b h (ix4 0 0 j d) = K (ix4 (headAt (fwd c o) h) b j d) := by
  match b with
  | 0 =>
    unfold ldK
    generalize hh : k0_off3_inb c o h = hin
    clear hh
    revert hin
    rw [off3_eq c o h]
    intro hin
    refine congrArg K (funext fun a => Fin.ext ?_)
    fin_cases a
    · show (4 * (fwd c o).val + h.val) + 1 * 0 = 4 * (fwd c o).val + h.val; omega
    · rfl
    · show 0 + 1 * j.val = j.val; omega
    · show 0 + 1 * d.val = d.val; omega
  | 1 =>
    unfold ldK
    generalize hh : k0_off4_inb c o h = hin
    clear hh
    revert hin
    rw [off4_eq c o h]
    intro hin
    refine congrArg K (funext fun a => Fin.ext ?_)
    fin_cases a
    · show (4 * (fwd c o).val + h.val) + 1 * 0 = 4 * (fwd c o).val + h.val; omega
    · rfl
    · show 0 + 1 * j.val = j.val; omega
    · show 0 + 1 * d.val = d.val; omega

theorem ldV_apply (V : S16x2x256x64.Idx → EReal) (c : Dev nD) (o : Fin 4) (b : Fin 2) (h : Fin 4) (j : Fin 256) (d : Fin 64) :
    ldV (F := Ideal) V c o b h (ix4 0 0 j d) = V (ix4 (headAt (fwd c o) h) b j d) := ldK_apply V c o b h j d

theorem entry_apply (X : S2x256x512.Idx → EReal) (b : Fin 2) (i : Fin 256) (t : Fin 512) : entry X b (ix3 0 i t) = X (ix3 b i t) := rfl

/-! ## The sum over the blocks -/

/-- The result of a batch entry after all blocks: the four contributions. -/
theorem accV_apply (I : In Ideal) (c : Dev nD) (b : Fin 2) (i : Fin 256) (n : Fin 512) :
    accV I c b 3 (ix3 0 i n) = ∑ o : Fin 4, nV I c o b (ix2 i n) := by
  rw [Fin.sum_univ_four]
  show addTo (addTo (addTo (put (nV I c 0 b)) (nV I c 1 b)) (nV I c 2 b)) (nV I c 3 b) (ix3 0 i n) = _
  rw [addTo_apply, addTo_apply, addTo_apply, put_apply]

theorem pair_first (a b : S1x256x512.Idx → EReal) (i : Fin 256) (n : Fin 512) : pair a b (ix3 0 i n) = a (ix3 0 i n) :=
  if_pos (c := ((ix3 (0 : Fin 2) i n : S2x256x512.Idx) 0).val = 0) rfl
theorem pair_second (a b : S1x256x512.Idx → EReal) (i : Fin 256) (n : Fin 512) : pair a b (ix3 1 i n) = b (ix3 0 i n) :=
  if_neg (c := ((ix3 (1 : Fin 2) i n : S2x256x512.Idx) 0).val = 0) Nat.one_ne_zero

theorem outV_apply (I : In Ideal) (c : Dev nD) (b : Fin 2) (i : Fin 256) (n : Fin 512) :
    outV I c (ix3 b i n) = ∑ o : Fin 4, ∑ h : Fin 4, ∑ d : Fin 64, cV I c o b h (ix2 i d) * I.WO (fwd c o) (ix2 ⟨64 * h.val + d.val, by omega⟩ n) := by
  refine Eq.trans ?_ ((accV_apply I c b i n).trans (Finset.sum_congr rfl fun o _ => contrib_apply _ _ i n))
  match b with
  | 0 => exact pair_first _ _ i n
  | 1 => exact pair_second _ _ i n

end Cert.BlockAttn
-- ==== Proof.Equation.lean ====
/-
The kernel's result on a device is that device's block of the reference's result: head by head the contexts agree, and the
1024 columns of the heads are the four blocks of four heads of 64 columns, in whatever order the device takes the blocks.
-/
module

public import proofs.«01_k».proof.Proof.KernelValue

@[expose] public section

set_option maxRecDepth 16384

noncomputable section

namespace Cert.BlockAttn

open Cert.KernelIdeal Cert.KernelIdeal.Gen
open Idealize.ShloMosaic Idealize.ShloMosaic.TcCoe
open scoped BigOperators

/-- Batch entry `b` of device `c` in the whole batch. -/
def batchAt (c : Dev nD) (b : Fin 2) : Fin 8 := ⟨c.val * 2 + b.val, by have h : c.val < 4 := c.isLt; omega⟩
/-- Column `e` of device `d`'s weight block in the whole array. -/
def colAt (d : Dev nD) (e : Fin 256) : Fin 1024 := ⟨d.val * 256 + e.val, by have h : d.val < 4 := d.isLt; omega⟩

/-- What a device holds, as blocks of the whole arrays. -/
structure Fits (I : In Ideal) (c : Dev nD) (x : Cert.ReferenceIdeal.S8x256x512.Idx → EReal) (wq : Cert.ReferenceIdeal.S512x1024.Idx → EReal)
    (k v : Cert.ReferenceIdeal.S8x256x16x64.Idx → EReal) (wo : Cert.ReferenceIdeal.S1024x512.Idx → EReal) : Prop where
  X : ∀ (b : Fin 2) (i : Fin 256) (t : Fin 512), I.X (ix3 b i t) = x (ix3 (batchAt c b) i t)
  K : ∀ (h : Fin 16) (b : Fin 2) (j : Fin 256) (d : Fin 64), I.K (ix4 h b j d) = k (ix4 (batchAt c b) j h d)
  V : ∀ (h : Fin 16) (b : Fin 2) (j : Fin 256) (d : Fin 64), I.V (ix4 h b j d) = v (ix4 (batchAt c b) j h d)
  WQ : ∀ (d : Dev nD) (t : Fin 512) (e : Fin 256), I.WQ d (ix2 t e) = wq (ix2 t (colAt d e))
  WO : ∀ (d : Dev nD) (e : Fin 256) (n : Fin 512), I.WO d (ix2 e n) = wo (ix2 (colAt d e) n)

section

variable {I : In Ideal} {c : Dev nD} {x : Cert.ReferenceIdeal.S8x256x512.Idx → EReal} {wq : Cert.ReferenceIdeal.S512x1024.Idx → EReal}
  {k v : Cert.ReferenceIdeal.S8x256x16x64.Idx → EReal} {wo : Cert.ReferenceIdeal.S1024x512.Idx → EReal}

/-- The exponential of a score, on a device and in the reference. -/
theorem exp_score (H : Fits I c x wq k v wo) (o h : Fin 4) (b : Fin 2) (i j : Fin 256) :
    headExp h (qV I c o b) (ldK I.K c o b h) (ix2 i j)
      = Ideal.exp (Ref.score x wq k (batchAt c b) (headAt (fwd c o) h) i j) := by
  rw [headExp_apply]
  unfold Ref.score
  refine congrArg (fun s => Ideal.exp (Scalar.select (keep i j) s low)) ?_
  obtain ⟨r, hr, he⟩ := eighth_real
  rw [he, sum_mul_coe _ hr.le]
  refine Finset.sum_congr rfl fun d _ => ?_
  rw [ldK_apply, H.K]
  unfold qV
  rw [qOf_apply, he, mul_right_comm]
  refine congrArg (fun s => s * _ * _) (Finset.sum_congr rfl fun t _ => ?_)
  rw [entry_apply, H.X, H.WQ]
  refine congrArg (fun e => x _ * wq (ix2 t e)) (Fin.ext ?_)
  show (fwd c o).val * 256 + (64 * h.val + d.val) = (4 * (fwd c o).val + h.val) * 64 + d.val
  omega

/-- The context of a head, on a device and in the reference. -/
theorem ctx_eq (H : Fits I c x wq k v wo) (o h : Fin 4) (b : Fin 2) (i : Fin 256) (d : Fin 64) :
    cV I c o b h (ix2 i d) = Ref.ctx x wq k v (batchAt c b) (headAt (fwd c o) h) i d := by
  unfold cV Ref.ctx
  rw [headCtx_apply]
  simp only [exp_score H, ldV_apply, H.V]

/-- A sum over `m * n` positions, row by row. -/
theorem sum_rows {m n : ℕ} (f : Fin (m * n) → EReal) : ∑ e, f e = ∑ a : Fin m, ∑ b : Fin n, f (finProdFinEquiv (a, b)) := by
  rw [← Equiv.sum_comp finProdFinEquiv f, Fintype.sum_prod_type]

/-- A sum over the 1024 columns: over blocks, over heads of a block, over the columns of a head. -/
theorem sum_cols (f : Fin 1024 → EReal) :
    ∑ e, f e = ∑ j : Fin 4, ∑ h : Fin 4, ∑ d : Fin 64, f (colAt j ⟨64 * h.val + d.val, by omega⟩) := by
  refine (sum_rows (m := 4) (n := 256) f).trans (Finset.sum_congr rfl fun j _ => ?_)
  refine (sum_rows (m := 4) (n := 64) fun e => f (finProdFinEquiv (m := 4) (n := 256) (j, e))).trans
    (Finset.sum_congr rfl fun h _ => Finset.sum_congr rfl fun d _ => congrArg f (Fin.ext ?_))
  show (d.val + 64 * h.val) + 256 * j.val = j.val * 256 + (64 * h.val + d.val)
  omega

/-- The blocks at the distances 0 to 3 from a device are all blocks. -/
theorem fwd_bij (c : Dev nD) : Function.Bijective (fwd c) := by
  refine Finite.injective_iff_bijective.mp ?_
  revert c
  decide

theorem sum_fwd (c : Dev nD) (g : Fin 4 → EReal) : ∑ o : Fin 4, g (fwd c o) = ∑ j, g j :=
  Equiv.sum_comp (Equiv.ofBijective _ (fwd_bij c)) g

/-- The device's result is its block of the reference's. -/
theorem out_eq (H : Fits I c x wq k v wo) (hx : ∀ i, IsFin (x i)) (hw : ∀ i, IsFin (wq i)) (hk : ∀ i, IsFin (k i))
    (b : Fin 2) (i : Fin 256) (n : Fin 512) :
    outV I c (ix3 b i n)
      = Ref.result (F := Ideal) (Ref.weights (F := Ideal) (Ref.exps (F := Ideal) (Ref.scores (F := Ideal) x wq k))) v wo (ix3 (batchAt c b) i n) := by
  rw [Ref.out_apply x wq k v wo hx hw hk, outV_apply, sum_cols]
  refine Eq.trans ?_ (sum_fwd c _)
  refine Finset.sum_congr rfl fun o _ => Finset.sum_congr rfl fun h _ => Finset.sum_congr rfl fun d _ => ?_
  rw [ctx_eq H, H.WO]
  refine congrArg₂ (fun (a : Fin 16) (e : Fin 64) => Ref.ctx x wq k v (batchAt c b) a i e * _) (Fin.ext ?_) (Fin.ext ?_)
  · show 4 * (fwd c o).val + h.val = ((fwd c o).val * 256 + (64 * h.val + d.val)) / 64
    omega
  · show d.val = ((fwd c o).val * 256 + (64 * h.val + d.val)) % 64
    omega

end

end Cert.BlockAttn
-- ==== Proof.Host.lean ====
/-
What the host hands the kernel: the keys and the values of a device are its two batch entries of the whole arrays, heads
first; its other inputs are its own blocks. And what the precondition says: that the queries' inputs and the keys are finite.
-/
module

public import proofs.«01_k».proof.Defs
public import proofs.«01_k».proof.Proof.Equation
public import proofs.«01_k».proof.Proof.Region
public import Idealize.ShloMosaic.Lib.StableHlo.RunClose
public import Idealize.ShloMosaic.Lib.LayoutAt
public import Idealize.ShloMosaic.Lib.DynamicIndex

@[expose] public section

set_option maxRecDepth 16384

noncomputable section

namespace Cert.BlockAttn

open Cert.KernelIdeal Cert.KernelIdeal.Gen
open Idealize.ShloMosaic Idealize.ShloMosaic.TcCoe
open scoped BigOperators

/-- The first batch entry of a device, as the host computes it. -/
def batchWord (c : Dev nD) : IVec S_ 32 :=
  muli (Host.remui (Host.divui (constantI S_ 32 c.word) (constantI S_ 32 1#32)) (constantI S_ 32 4#32)) (constantI S_ 32 2#32)
/-- The start of its slice: that entry, which is not negative. -/
theorem start_toInt (c : Dev nD) :
    (select (cmpi .slt (batchWord c) (constantI S_ 32 0#32)) (addi (batchWord c) (constantI S_ 32 8#32)) (batchWord c) (Shape.Idx.first h_S_)).toInt
      = ((c.val * 2 : ℕ) : Int) := by
  revert c
  decide +kernel

section

variable {F : FTy → Type} [FloatOps F] (m : (ℓ : Loc nD τ sig) → Buf (Elt F) ℓ)

/-- Device `c`'s two batch entries lie inside the batch. -/
theorem batch_slices (c : Dev nD) : S8x256x16x64.Slices ![c.val * 2, 0, 0, 0] S2x256x16x64 := by
  revert c
  decide

/-- The keys a device works on. -/
theorem keys_eq (c : Dev nD) (h : Fin 16) (b : Fin 2) (j : Fin 256) (d : Fin 64) :
    V1 m c main_v10 (ix4 h b j d) = V0 m c main_arg2 (ix4 (batchAt c b) j h d) := by
  show StableHlo.after (hostOps0 c) (V0 m c) main_v10 _ = _
  after_results_simp_entrywise
  rw [Host.dynamicSlice_eq_extractStridedSlice _ _ _ ![c.val * 2, 0, 0, 0] _ (batch_slices c) (by
    intro a
    fin_cases a
    · exact start_toInt c
    · rfl
    · rfl
    · rfl)]
  pointwise []
  rfl

/-- The values a device works on. -/
theorem values_eq (c : Dev nD) (h : Fin 16) (b : Fin 2) (j : Fin 256) (d : Fin 64) :
    V1 m c main_v16 (ix4 h b j d) = V0 m c main_arg3 (ix4 (batchAt c b) j h d) := by
  show StableHlo.after (hostOps0 c) (V0 m c) main_v16 _ = _
  after_results_simp_entrywise
  rw [Host.dynamicSlice_eq_extractStridedSlice _ _ _ ![c.val * 2, 0, 0, 0] _ (batch_slices c) (by
    intro a
    fin_cases a
    · exact start_toInt c
    · rfl
    · rfl
    · rfl)]
  pointwise []
  rfl

end

/-! ## Blocks of whole arrays at an index -/

section

variable {α : Type}

theorem block_batch (c : Fin 4) (x : (⟨3, ![8, 256, 512]⟩ : Shape).Idx → α) (b : Fin 2) (i : Fin 256) (t : Fin 512) :
    Layout.block ⟨3, ![2, 256, 512]⟩ ⟨3, ![8, 256, 512]⟩ 0 4 c x (by decide) (ix3 b i t) = x (ix3 (batchAt c b) i t) := by
  rw [Layout.block_apply]
  refine congrArg x (funext fun a => Fin.ext ?_)
  fin_cases a
  · exact Layout.Tiles.idx_val_self _ _ _ _ rfl
  · exact Layout.Tiles.idx_val_of_ne _ _ _ _ (by decide)
  · exact Layout.Tiles.idx_val_of_ne _ _ _ _ (by decide)

theorem block_cols (c : Fin 4) (w : (⟨2, ![512, 1024]⟩ : Shape).Idx → α) (t : Fin 512) (e : Fin 256) :
    Layout.block ⟨2, ![512, 256]⟩ ⟨2, ![512, 1024]⟩ 1 4 c w (by decide) (ix2 t e) = w (ix2 t (colAt c e)) := by
  rw [Layout.block_apply]
  refine congrArg w (funext fun a => Fin.ext ?_)
  fin_cases a
  · exact Layout.Tiles.idx_val_of_ne _ _ _ _ (by decide)
  · exact Layout.Tiles.idx_val_self _ _ _ _ rfl

theorem block_rows (c : Fin 4) (w : (⟨2, ![1024, 512]⟩ : Shape).Idx → α) (e : Fin 256) (n : Fin 512) :
    Layout.block ⟨2, ![256, 512]⟩ ⟨2, ![1024, 512]⟩ 0 4 c w (by decide) (ix2 e n) = w (ix2 (colAt c e) n) := by
  rw [Layout.block_apply]
  refine congrArg w (funext fun a => Fin.ext ?_)
  fin_cases a
  · exact Layout.Tiles.idx_val_self _ _ _ _ rfl
  · exact Layout.Tiles.idx_val_of_ne _ _ _ _ (by decide)

/-- Every batch entry is one of a device's, and every column lies in a device's block. -/
theorem batch_split (B : Fin 8) : ∃ (c : Dev nD) (b : Fin 2), B = batchAt c b :=
  ⟨(⟨B.val / 2, by omega⟩ : Fin 4), ⟨B.val % 2, by omega⟩, Fin.ext (by show B.val = B.val / 2 * 2 + B.val % 2; omega)⟩
theorem col_split (E : Fin 1024) : ∃ (d : Dev nD) (e : Fin 256), E = colAt d e :=
  ⟨(⟨E.val / 256, by omega⟩ : Fin 4), ⟨E.val % 256, by omega⟩, Fin.ext (by show E.val = E.val / 256 * 256 + E.val % 256; omega)⟩

end

/-! ## Finiteness -/

theorem top_bits : Ideal.ofBits FTy.bf16 0x7F80#16 = ⊤ := by
  unfold Ideal.ofBits Ideal.ieee
  exact (if_pos (by decide)).trans ((if_pos (by decide)).trans (if_neg (by decide)))

/-- An array whose absolute values compare below infinity is finite. -/
theorem fin_of_below {s : Shape} (x : FVec Ideal s .bf16) (hb : (⟨0, ![]⟩ : Shape).BroadcastsInDim s (![] : Fin 0 → Fin s.rank))
    (h : cmpf .olt (Host.absf x) (broadcastInDim s ![] hb (constant (F := Ideal) ⟨0, ![]⟩ .bf16 0x7F80#16)) = fun _ => 1#1) (i : s.Idx) :
    IsFin (x i) := by
  have hi := congrFun h i
  refine fin_of_abs ?_
  by_contra hn
  have h0 : cmpf .olt (Host.absf x) (broadcastInDim s ![] hb (constant (F := Ideal) ⟨0, ![]⟩ .bf16 0x7F80#16)) i = 0#1 := by
    show BitVec.ofBool (decide (max (x i) (-(x i)) < Ideal.ofBits FTy.bf16 0x7F80#16)) = 0#1
    rw [top_bits, decide_eq_false hn]
    rfl
  exact absurd (hi.symm.trans h0) (by decide)

/-! ## The two memories -/

section

variable {m : (ℓ : Loc nD τ sig) → Buf (Elt Ideal) ℓ}
  {x : Cert.ReferenceIdeal.S8x256x512.Idx → EReal} {wq : Cert.ReferenceIdeal.S512x1024.Idx → EReal}
  {k v : Cert.ReferenceIdeal.S8x256x16x64.Idx → EReal} {wo : Cert.ReferenceIdeal.S1024x512.Idx → EReal}

/-- Each device holds its blocks of the whole arrays. -/
def Blocks (m : (ℓ : Loc nD τ sig) → Buf (Elt Ideal) ℓ) (x : Cert.ReferenceIdeal.S8x256x512.Idx → EReal) (wq : Cert.ReferenceIdeal.S512x1024.Idx → EReal)
    (k v : Cert.ReferenceIdeal.S8x256x16x64.Idx → EReal) (wo : Cert.ReferenceIdeal.S1024x512.Idx → EReal) : Prop :=
  ∀ c : Dev nD,
    m ((c.tc : Thread nD τ).loc main_arg0) = Layout.block ⟨3, ![2, 256, 512]⟩ ⟨3, ![8, 256, 512]⟩ 0 4 c x
    ∧ m ((c.tc : Thread nD τ).loc main_arg1) = Layout.block ⟨2, ![512, 256]⟩ ⟨2, ![512, 1024]⟩ 1 4 c wq
    ∧ m ((c.tc : Thread nD τ).loc main_arg2) = k
    ∧ m ((c.tc : Thread nD τ).loc main_arg3) = v
    ∧ m ((c.tc : Thread nD τ).loc main_arg4) = Layout.block ⟨2, ![256, 512]⟩ ⟨2, ![1024, 512]⟩ 0 4 c wo

/-- Then what the call works on are these blocks. -/
theorem fits (h : Blocks m x wq k v wo) (c : Dev nD) : Fits (inp m c) c x wq k v wo where
  X b i t := (congrFun ((V1_of m c main_arg0 (by decide)).trans (h c).1) (ix3 b i t)).trans (block_batch c x b i t)
  K hd b j d := (keys_eq m c hd b j d).trans (congrFun (h c).2.2.1 _)
  V hd b j d := (values_eq m c hd b j d).trans (congrFun (h c).2.2.2.1 _)
  WQ d t e := (congrFun ((V1_of m d main_arg1 (by decide)).trans (h d).2.1) (ix2 t e)).trans (block_cols d wq t e)
  WO d e n := (congrFun ((V1_of m d main_arg4 (by decide)).trans (h d).2.2.2.2) (ix2 e n)).trans (block_rows d wo e n)

instance preFacts : Cert.Pre_finite_scores_KernelIdeal.Facts where
  bcast_S_S2x256x512 := by decide
  bcast_S_S512x256 := by decide
  bcast_S_S8x256x16x64 := by decide
instance preFactsRef : Cert.Pre_finite_scores_ReferenceIdeal.Facts where
  bcast_S_S8x256x512 := by decide
  bcast_S_S512x1024 := by decide
  bcast_S_S8x256x16x64 := by decide

/-- Under the precondition the whole arrays that the scores are made of are finite. -/
theorem fin_x (h : Blocks m x wq k v wo) (hp : Cert.Pre_KernelIdeal_finite_scores_KernelIdeal m) (i : Cert.ReferenceIdeal.S8x256x512.Idx) : IsFin (x i) := by
  rw [eq_ix3 (n0 := 8) (n1 := 256) (n2 := 512) i]
  obtain ⟨c, b, hB⟩ := batch_split (i 0)
  rw [hB, ← block_batch c x b (i 1) (i 2), ← (h c).1]
  exact fin_of_below _ _ (hp c).1 _
theorem fin_wq (h : Blocks m x wq k v wo) (hp : Cert.Pre_KernelIdeal_finite_scores_KernelIdeal m) (i : Cert.ReferenceIdeal.S512x1024.Idx) : IsFin (wq i) := by
  rw [eq_ix2 (n0 := 512) (n1 := 1024) i]
  obtain ⟨d, e, hE⟩ := col_split (i 1)
  rw [hE, ← block_cols d wq (i 0) e, ← (h d).2.1]
  exact fin_of_below _ _ (hp d).2.1 _
theorem fin_k (h : Blocks m x wq k v wo) (hp : Cert.Pre_KernelIdeal_finite_scores_KernelIdeal m) (i : Cert.ReferenceIdeal.S8x256x16x64.Idx) : IsFin (k i) := by
  rw [← (h 0).2.2.1]
  exact fin_of_below _ _ (hp 0).2.2 _

/-- The array a device ends with is its block of the reference's result. -/
theorem ends_block (h : Blocks m x wq k v wo) (hp : Cert.Pre_KernelIdeal_finite_scores_KernelIdeal m) (c : Dev nD) :
    outV (inp m c) c = Layout.block ⟨3, ![2, 256, 512]⟩ ⟨3, ![8, 256, 512]⟩ 0 4 c
      (Ref.result (F := Ideal) (Ref.weights (F := Ideal) (Ref.exps (F := Ideal) (Ref.scores (F := Ideal) x wq k))) v wo) := by
  funext i
  rw [eq_ix3 (n0 := 2) (n1 := 256) (n2 := 512) i]
  exact (out_eq (fits h c) (fin_x h hp) (fin_wq h hp) (fin_k h hp) (i 0) (i 1) (i 2)).trans (block_batch c _ (i 0) (i 1) (i 2)).symm

end

end Cert.BlockAttn
-- ==== Proof.lean ====
/-
The claims of this certificate: the frames of the kernel as printed, of its idealization and of the reference; that the
idealization is sanctioned; and that idealized kernel and reference compute the same value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Host
public import Idealize.ShloMosaic.Adequacy
public import Idealize.ShloMosaic.Init

@[expose] public section

noncomputable section

namespace Cert.Proof

open Idealize.ShloMosaic Idealize.SL.Sem

/-- The two printed programs are one text: their body tables agree label by label. -/
theorem table_same : Cert.Kernel.defs₀ (F := Bits) = Cert.KernelIdeal.defs₀ (F := Bits) := by
  refine congrArg Defs.onTc (funext fun l => funext fun a => ?_)
  match l, a with
  | 0, (t, s) => rfl

/-- Hence so do the tables of the whole pipelines. -/
theorem pipe_same : Cert.Kernel.defs (F := Bits) = Cert.KernelIdeal.defs (F := Bits) :=
  congrArg (Pipeline.defs (Cert.KernelIdeal.pcfgs (F := Bits))) table_same

/-- And their main programs. -/
theorem main_same : Cert.Kernel.main (F := Bits) = Cert.KernelIdeal.main (F := Bits) := rfl

/-- The printed kernel runs, its arguments and every semaphore as they were. -/
theorem frame_kernel : Cert.quiescent_Kernel := by
  intro m ρ _
  rw [pipe_same, main_same]
  exact (θ_run Cert.KernelIdeal.defs _ _).mono (fun _ h => ⟨fun c => (h.1 c).2, h.2⟩) (Cert.BlockAttn.run_main (F := Bits) m ρ)

/-- So does its idealization. -/
theorem frame_ideal : Cert.quiescent_KernelIdeal := fun m ρ _ =>
  (θ_run Cert.KernelIdeal.defs _ _).mono (fun _ h => ⟨fun c => (h.1 c).2, h.2⟩) (Cert.BlockAttn.run_main (F := Ideal) m ρ)

/-- So does the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Under the precondition the kernel ends with each device's block of the reference's result. -/
theorem algebraic : Cert.algebraic_KernelIdeal_ReferenceIdeal_pre_finite_scores_KernelIdeal := fun m g m' g' hp h =>
  ⟨Cert.ReferenceIdeal.Value.res_out0 m' 0,
    (θ_run Cert.KernelIdeal.defs _ _).mono (fun _ hr c => ⟨(hr.1 c).1.trans (Cert.BlockAttn.ends_block h hp c), (hr.1 c).2⟩)
      (Cert.BlockAttn.run_main (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  Cert.BlockAttn.preFacts, Cert.BlockAttn.preFactsRef,
  frame_kernel, frame_ideal, fun m g _ => frame_ideal m g trivial, frame_reference, fun m g _ => frame_reference m g trivial, trivial, algebraic⟩

end Cert.Proof

end
